-- ==== Defs.lean ====
def Pre_Adj [hPre_in_range : Cert.Pre_in_range.Facts] (m : (ℓ : Loc Cert.Adj.nD Cert.Adj.τ Cert.Adj.sig) → Buf (Elt Bits) ℓ) : Prop :=
  ∀ c : Dev Cert.Adj.nD,
    (Cert.Pre_in_range.fn (F := Bits) (m ((c.tc : Thread Cert.Adj.nD Cert.Adj.τ).loc Cert.Adj.main_arg0))) = (fun _ => 1#1)

def Pre_AdjIdeal [hPre_in_range : Cert.Pre_in_range.Facts] (m : (ℓ : Loc Cert.AdjIdeal.nD Cert.AdjIdeal.τ Cert.AdjIdeal.sig) → Buf (Elt Ideal) ℓ) : Prop :=
  ∀ c : Dev Cert.AdjIdeal.nD,
    (Cert.Pre_in_range.fn (F := Ideal) (m ((c.tc : Thread Cert.AdjIdeal.nD Cert.AdjIdeal.τ).loc Cert.AdjIdeal.main_arg0))) = (fun _ => 1#1)

def Pre_AdjRefIdeal (m : (ℓ : Loc Cert.AdjRefIdeal.nD Cert.AdjRefIdeal.τ Cert.AdjRefIdeal.sig) → Buf (Elt Ideal) ℓ) : Prop :=
  True

def Pre_AdjRefIdeal_in_range [hPre_in_range : Cert.Pre_in_range.Facts] (m : (ℓ : Loc Cert.AdjRefIdeal.nD Cert.AdjRefIdeal.τ Cert.AdjRefIdeal.sig) → Buf (Elt Ideal) ℓ) : Prop :=
  ∀ c : Dev Cert.AdjRefIdeal.nD,
    (Cert.Pre_in_range.fn (F := Ideal) (m ((c.tc : Thread Cert.AdjRefIdeal.nD Cert.AdjRefIdeal.τ).loc Cert.AdjRefIdeal.main_arg0))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite [hPre_finite : Cert.Pre_finite.Facts] (m : (ℓ : Loc Cert.WholeIdeal.nD Cert.WholeIdeal.τ Cert.WholeIdeal.sig) → Buf (Elt Ideal) ℓ) : Prop :=
  ∀ c : Dev Cert.WholeIdeal.nD,
    (Cert.Pre_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2))) = (fun _ => 1#1)

def Pre_WholeRefIdeal (m : (ℓ : Loc Cert.WholeRefIdeal.nD Cert.WholeRefIdeal.τ Cert.WholeRefIdeal.sig) → Buf (Elt Ideal) ℓ) : Prop :=
  True

def Pre_WholeRefIdeal_finite [hPre_finite : Cert.Pre_finite.Facts] (m : (ℓ : Loc Cert.WholeRefIdeal.nD Cert.WholeRefIdeal.τ Cert.WholeRefIdeal.sig) → Buf (Elt Ideal) ℓ) : Prop :=
  ∀ c : Dev Cert.WholeRefIdeal.nD,
    (Cert.Pre_finite.fn (F := Ideal) (m ((c.tc : Thread Cert.WholeRefIdeal.nD Cert.WholeRefIdeal.τ).loc Cert.WholeRefIdeal.main_arg0)) (m ((c.tc : Thread Cert.WholeRefIdeal.nD Cert.WholeRefIdeal.τ).loc Cert.WholeRefIdeal.main_arg1)) (m ((c.tc : Thread Cert.WholeRefIdeal.nD Cert.WholeRefIdeal.τ).loc Cert.WholeRefIdeal.main_arg2))) = (fun _ => 1#1)

def quiescent_Adj [hAdj : Cert.Adj.Facts] [hPre_in_range : Cert.Pre_in_range.Facts] : Prop :=
  ∀ (m : (ℓ : Loc Cert.Adj.nD Cert.Adj.τ Cert.Adj.sig) → Buf (Elt Bits) ℓ) (g : Dev Cert.Adj.nD → PrngReg), Pre_Adj m →
    θ_run (Cert.Adj.defs (F := Bits)) (Cert.Adj.threads (F := Bits)) ⟨m, fun _ => 0, g⟩ (fun r => (∀ c : Dev Cert.Adj.nD,
      r.2.mem ((c.tc : Thread Cert.Adj.nD Cert.Adj.τ).loc Cert.Adj.main_arg0) = m ((c.tc : Thread Cert.Adj.nD Cert.Adj.τ).loc Cert.Adj.main_arg0))
      ∧ r.2.sem = fun _ => 0)

def quiescent_AdjIdeal [hAdjIdeal : Cert.AdjIdeal.Facts] [hPre_in_range : Cert.Pre_in_range.Facts] : Prop :=
  ∀ (m : (ℓ : Loc Cert.AdjIdeal.nD Cert.AdjIdeal.τ Cert.AdjIdeal.sig) → Buf (Elt Ideal) ℓ) (g : Dev Cert.AdjIdeal.nD → PrngReg), Pre_AdjIdeal m →
    θ_run (Cert.AdjIdeal.defs (F := Ideal)) (Cert.AdjIdeal.threads (F := Ideal)) ⟨m, fun _ => 0, g⟩ (fun r => (∀ c : Dev Cert.AdjIdeal.nD,
      r.2.mem ((c.tc : Thread Cert.AdjIdeal.nD Cert.AdjIdeal.τ).loc Cert.AdjIdeal.main_arg0) = m ((c.tc : Thread Cert.AdjIdeal.nD Cert.AdjIdeal.τ).loc Cert.AdjIdeal.main_arg0))
      ∧ r.2.sem = fun _ => 0)

def quiescent_AdjRefIdeal [hAdjRefIdeal : Cert.AdjRefIdeal.Facts] : Prop :=
  ∀ (m : (ℓ : Loc Cert.AdjRefIdeal.nD Cert.AdjRefIdeal.τ Cert.AdjRefIdeal.sig) → Buf (Elt Ideal) ℓ) (g : Dev Cert.AdjRefIdeal.nD → PrngReg), Pre_AdjRefIdeal m →
    θ_run (Cert.AdjRefIdeal.defs (F := Ideal)) (onTc (τ := Cert.AdjRefIdeal.τ) (Cert.AdjRefIdeal.main (F := Ideal))) ⟨m, fun _ => 0, g⟩ (fun r => (∀ c : Dev Cert.AdjRefIdeal.nD,
      r.2.mem ((c.tc : Thread Cert.AdjRefIdeal.nD Cert.AdjRefIdeal.τ).loc Cert.AdjRefIdeal.main_arg0) = m ((c.tc : Thread Cert.AdjRefIdeal.nD Cert.AdjRefIdeal.τ).loc Cert.AdjRefIdeal.main_arg0))
      ∧ r.2.sem = fun _ => 0)

def quiescent_AdjRefIdeal_pre_in_range [hAdjRefIdeal : Cert.AdjRefIdeal.Facts] [hPre_in_range : Cert.Pre_in_range.Facts] : Prop :=
  ∀ (m : (ℓ : Loc Cert.AdjRefIdeal.nD Cert.AdjRefIdeal.τ Cert.AdjRefIdeal.sig) → Buf (Elt Ideal) ℓ) (g : Dev Cert.AdjRefIdeal.nD → PrngReg), Pre_AdjRefIdeal_in_range m →
    θ_run (Cert.AdjRefIdeal.defs (F := Ideal)) (onTc (τ := Cert.AdjRefIdeal.τ) (Cert.AdjRefIdeal.main (F := Ideal))) ⟨m, fun _ => 0, g⟩ (fun r => (∀ c : Dev Cert.AdjRefIdeal.nD,
      r.2.mem ((c.tc : Thread Cert.AdjRefIdeal.nD Cert.AdjRefIdeal.τ).loc Cert.AdjRefIdeal.main_arg0) = m ((c.tc : Thread Cert.AdjRefIdeal.nD Cert.AdjRefIdeal.τ).loc Cert.AdjRefIdeal.main_arg0))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeIdeal_pre_finite [hWholeIdeal : Cert.WholeIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ r.2.sem = fun _ => 0)

def quiescent_WholeRefIdeal [hWholeRefIdeal : Cert.WholeRefIdeal.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def quiescent_WholeRefIdeal_pre_finite [hWholeRefIdeal : Cert.WholeRefIdeal.Facts] [hPre_finite : Cert.Pre_finite.Facts] : Prop :=
  ∀ (m : (ℓ : Loc Cert.WholeRefIdeal.nD Cert.WholeRefIdeal.τ Cert.WholeRefIdeal.sig) → Buf (Elt Ideal) ℓ) (g : Dev Cert.WholeRefIdeal.nD → PrngReg), Pre_WholeRefIdeal_finite m →
    θ_run (Cert.WholeRefIdeal.defs (F := Ideal)) (onTc (τ := Cert.WholeRefIdeal.τ) (Cert.WholeRefIdeal.main (F := Ideal))) ⟨m, fun _ => 0, g⟩ (fun r => (∀ c : Dev Cert.WholeRefIdeal.nD,
      r.2.mem ((c.tc : Thread Cert.WholeRefIdeal.nD Cert.WholeRefIdeal.τ).loc Cert.WholeRefIdeal.main_arg0) = m ((c.tc : Thread Cert.WholeRefIdeal.nD Cert.WholeRefIdeal.τ).loc Cert.WholeRefIdeal.main_arg0)
      ∧ r.2.mem ((c.tc : Thread Cert.WholeRefIdeal.nD Cert.WholeRefIdeal.τ).loc Cert.WholeRefIdeal.main_arg1) = m ((c.tc : Thread Cert.WholeRefIdeal.nD Cert.WholeRefIdeal.τ).loc Cert.WholeRefIdeal.main_arg1)
      ∧ r.2.mem ((c.tc : Thread Cert.WholeRefIdeal.nD Cert.WholeRefIdeal.τ).loc Cert.WholeRefIdeal.main_arg2) = m ((c.tc : Thread Cert.WholeRefIdeal.nD Cert.WholeRefIdeal.τ).loc Cert.WholeRefIdeal.main_arg2))
      ∧ r.2.sem = fun _ => 0)

def preserves_Adj_AdjIdeal : Prop :=
  True

def algebraic_AdjIdeal_AdjRefIdeal [hAdjIdeal : Cert.AdjIdeal.Facts] [hAdjRefIdeal : Cert.AdjRefIdeal.Facts] [hPre_in_range : Cert.Pre_in_range.Facts] : Prop :=
  ∀ (m : (ℓ : Loc Cert.AdjIdeal.nD Cert.AdjIdeal.τ Cert.AdjIdeal.sig) → Buf (Elt Ideal) ℓ) (g : Dev Cert.AdjIdeal.nD → PrngReg)
    (m' : (ℓ : Loc Cert.AdjRefIdeal.nD Cert.AdjRefIdeal.τ Cert.AdjRefIdeal.sig) → Buf (Elt Ideal) ℓ) (g' : Dev Cert.AdjRefIdeal.nD → PrngReg), Pre_AdjIdeal m →
    (∀ c : Dev Cert.AdjIdeal.nD,
      m' ((c.tc : Thread Cert.AdjRefIdeal.nD Cert.AdjRefIdeal.τ).loc Cert.AdjRefIdeal.main_arg0) = m ((c.tc : Thread Cert.AdjIdeal.nD Cert.AdjIdeal.τ).loc Cert.AdjIdeal.main_arg0)) →
    ∃ (v0 : (c : Dev Cert.AdjIdeal.nD) → Buf (Elt Ideal) ((c.tc : Thread Cert.AdjIdeal.nD Cert.AdjIdeal.τ).loc Cert.AdjIdeal.main_v0)),
      θ_run (Cert.AdjIdeal.defs (F := Ideal)) (Cert.AdjIdeal.threads (F := Ideal)) ⟨m, fun _ => 0, g⟩ (fun r => ∀ c : Dev Cert.AdjIdeal.nD,
          r.2.mem ((c.tc : Thread Cert.AdjIdeal.nD Cert.AdjIdeal.τ).loc Cert.AdjIdeal.main_v0) = v0 c
          ∧ r.2.mem ((c.tc : Thread Cert.AdjIdeal.nD Cert.AdjIdeal.τ).loc Cert.AdjIdeal.main_arg0) = m ((c.tc : Thread Cert.AdjIdeal.nD Cert.AdjIdeal.τ).loc Cert.AdjIdeal.main_arg0))
      ∧ θ_run (Cert.AdjRefIdeal.defs (F := Ideal)) (onTc (τ := Cert.AdjRefIdeal.τ) (Cert.AdjRefIdeal.main (F := Ideal))) ⟨m', fun _ => 0, g'⟩ (fun r => ∀ c : Dev Cert.AdjRefIdeal.nD,
          r.2.mem ((c.tc : Thread Cert.AdjRefIdeal.nD Cert.AdjRefIdeal.τ).loc Cert.AdjRefIdeal.main_v8) = v0 c
          ∧ r.2.mem ((c.tc : Thread Cert.AdjRefIdeal.nD Cert.AdjRefIdeal.τ).loc Cert.AdjRefIdeal.main_arg0) = m' ((c.tc : Thread Cert.AdjRefIdeal.nD Cert.AdjRefIdeal.τ).loc Cert.AdjRefIdeal.main_arg0))

def algebraic_WholeIdeal_WholeRefIdeal_pre_finite [hWholeIdeal : Cert.WholeIdeal.Facts] [hWholeRefIdeal : Cert.WholeRefIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.WholeRefIdeal.nD Cert.WholeRefIdeal.τ Cert.WholeRefIdeal.sig) → Buf (Elt Ideal) ℓ) (g' : Dev Cert.WholeRefIdeal.nD → PrngReg), Pre_WholeIdeal_finite m →
    (∀ c : Dev Cert.WholeIdeal.nD,
      m' ((c.tc : Thread Cert.WholeRefIdeal.nD Cert.WholeRefIdeal.τ).loc Cert.WholeRefIdeal.main_arg0) = m ((c.tc : Thread Cert.WholeIdeal.nD Cert.WholeIdeal.τ).loc Cert.WholeIdeal.main_arg0)
      ∧ m' ((c.tc : Thread Cert.WholeRefIdeal.nD Cert.WholeRefIdeal.τ).loc Cert.WholeRefIdeal.main_arg1) = m ((c.tc : Thread Cert.WholeIdeal.nD Cert.WholeIdeal.τ).loc Cert.WholeIdeal.main_arg1)
      ∧ m' ((c.tc : Thread Cert.WholeRefIdeal.nD Cert.WholeRefIdeal.τ).loc Cert.WholeRefIdeal.main_arg2) = m ((c.tc : Thread Cert.WholeIdeal.nD Cert.WholeIdeal.τ).loc Cert.WholeIdeal.main_arg2)) →
    ∃ (v0 : (c : Dev Cert.WholeIdeal.nD) → Buf (Elt Ideal) ((c.tc : Thread Cert.WholeIdeal.nD Cert.WholeIdeal.τ).loc Cert.WholeIdeal.main_v5_0)) (v1 : (c : Dev Cert.WholeIdeal.nD) → Buf (Elt Ideal) ((c.tc : Thread Cert.WholeIdeal.nD Cert.WholeIdeal.τ).loc Cert.WholeIdeal.main_v6)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v5_0) = v0 c
          ∧ r.2.mem ((c.tc : Thread Cert.WholeIdeal.nD Cert.WholeIdeal.τ).loc Cert.WholeIdeal.main_v6) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2))
      ∧ θ_run (Cert.WholeRefIdeal.defs (F := Ideal)) (onTc (τ := Cert.WholeRefIdeal.τ) (Cert.WholeRefIdeal.main (F := Ideal))) ⟨m', fun _ => 0, g'⟩ (fun r => ∀ c : Dev Cert.WholeRefIdeal.nD,
          r.2.mem ((c.tc : Thread Cert.WholeRefIdeal.nD Cert.WholeRefIdeal.τ).loc Cert.WholeRefIdeal.main_v7) = v0 c
          ∧ r.2.mem ((c.tc : Thread Cert.WholeRefIdeal.nD Cert.WholeRefIdeal.τ).loc Cert.WholeRefIdeal.main_v26) = v1 c
          ∧ r.2.mem ((c.tc : Thread Cert.WholeRefIdeal.nD Cert.WholeRefIdeal.τ).loc Cert.WholeRefIdeal.main_arg0) = m' ((c.tc : Thread Cert.WholeRefIdeal.nD Cert.WholeRefIdeal.τ).loc Cert.WholeRefIdeal.main_arg0)
          ∧ r.2.mem ((c.tc : Thread Cert.WholeRefIdeal.nD Cert.WholeRefIdeal.τ).loc Cert.WholeRefIdeal.main_arg1) = m' ((c.tc : Thread Cert.WholeRefIdeal.nD Cert.WholeRefIdeal.τ).loc Cert.WholeRefIdeal.main_arg1)
          ∧ r.2.mem ((c.tc : Thread Cert.WholeRefIdeal.nD Cert.WholeRefIdeal.τ).loc Cert.WholeRefIdeal.main_arg2) = m' ((c.tc : Thread Cert.WholeRefIdeal.nD Cert.WholeRefIdeal.τ).loc Cert.WholeRefIdeal.main_arg2))

def Claim : Prop :=
  ∃ (hAdj : Cert.Adj.Facts) (hAdjIdeal : Cert.AdjIdeal.Facts) (hAdjRefIdeal : Cert.AdjRefIdeal.Facts) (hWholeIdeal : Cert.WholeIdeal.Facts) (hWholeRefIdeal : Cert.WholeRefIdeal.Facts) (hPre_in_range : Cert.Pre_in_range.Facts) (hPre_finite : Cert.Pre_finite.Facts),
    quiescent_Adj (hAdj := hAdj) (hPre_in_range := hPre_in_range)
    ∧ quiescent_AdjIdeal (hAdjIdeal := hAdjIdeal) (hPre_in_range := hPre_in_range)
    ∧ quiescent_AdjRefIdeal (hAdjRefIdeal := hAdjRefIdeal)
    ∧ quiescent_AdjRefIdeal_pre_in_range (hAdjRefIdeal := hAdjRefIdeal) (hPre_in_range := hPre_in_range)
    ∧ quiescent_WholeIdeal (hWholeIdeal := hWholeIdeal)
    ∧ quiescent_WholeIdeal_pre_finite (hWholeIdeal := hWholeIdeal) (hPre_finite := hPre_finite)
    ∧ quiescent_WholeRefIdeal (hWholeRefIdeal := hWholeRefIdeal)
    ∧ quiescent_WholeRefIdeal_pre_finite (hWholeRefIdeal := hWholeRefIdeal) (hPre_finite := hPre_finite)
    ∧ preserves_Adj_AdjIdeal
    ∧ algebraic_AdjIdeal_AdjRefIdeal (hAdjIdeal := hAdjIdeal) (hAdjRefIdeal := hAdjRefIdeal) (hPre_in_range := hPre_in_range)
    ∧ algebraic_WholeIdeal_WholeRefIdeal_pre_finite (hWholeIdeal := hWholeIdeal) (hWholeRefIdeal := hWholeRefIdeal) (hPre_finite := hPre_finite)
-- ==== Pre_finite.lean ====
abbrev S8x3x384x384 : Shape := ⟨4, ![8, 3, 384, 384]⟩
abbrev S192x3x16x16 : Shape := ⟨4, ![192, 3, 16, 16]⟩
abbrev S192 : Shape := ⟨1, ![192]⟩
abbrev S_ : Shape := ⟨0, ![]⟩

class Facts : Prop where
  bcast_S_S8x3x384x384 : S_.BroadcastsInDim S8x3x384x384 (![] : Fin 0 → Fin S8x3x384x384.rank)
  reducesTo_S8x3x384x384_S_d0_1_2_3 : S8x3x384x384.ReducesTo [0, 1, 2, 3] S_
  h_S_ : 0 < S_.numel
  bcast_S_S192x3x16x16 : S_.BroadcastsInDim S192x3x16x16 (![] : Fin 0 → Fin S192x3x16x16.rank)
  reducesTo_S192x3x16x16_S_d0_1_2_3 : S192x3x16x16.ReducesTo [0, 1, 2, 3] S_
  bcast_S_S192 : S_.BroadcastsInDim S192 (![] : Fin 0 → Fin S192.rank)
  reducesTo_S192_S_d0 : S192.ReducesTo [0] S_

variable [Facts]

def fn {F : FTy → Type} [FloatOps F] (main_arg0 : FVec F S8x3x384x384 .f32) (main_arg1 : FVec F S192x3x16x16 .f32) (main_arg2 : FVec F S192 .f32) : IVec S_ 1 :=
  let main_v0 : FVec F S8x3x384x384 .f32 := Host.absf main_arg0
  let main_cst : FVec F S_ .f32 := constant S_ .f32 0x7F800000#32
  let main_v1 : FVec F S8x3x384x384 .f32 := broadcastInDim S8x3x384x384 ![] bcast_S_S8x3x384x384 main_cst
  let main_v2 : IVec S8x3x384x384 1 := cmpf .olt main_v0 main_v1
  let main_c : IVec S_ 1 := constantI S_ 1 1#1
  let main_v3 : IVec S_ 1 := (fun x v => Host.reduce IntOp.andi x v reducesTo_S8x3x384x384_S_d0_1_2_3 h_S_) main_v2 main_c
  let main_v4 : FVec F S192x3x16x16 .f32 := Host.absf main_arg1
  let main_cst_0 : FVec F S_ .f32 := constant S_ .f32 0x7F800000#32
  let main_v5 : FVec F S192x3x16x16 .f32 := broadcastInDim S192x3x16x16 ![] bcast_S_S192x3x16x16 main_cst_0
  let main_v6 : IVec S192x3x16x16 1 := cmpf .olt main_v4 main_v5
  let main_c_1 : IVec S_ 1 := constantI S_ 1 1#1
  let main_v7 : IVec S_ 1 := (fun x v => Host.reduce IntOp.andi x v reducesTo_S192x3x16x16_S_d0_1_2_3 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  main_v13
-- ==== Pre_in_range.lean ====
abbrev S8x576x16 : Shape := ⟨3, ![8, 576, 16]⟩
abbrev S_ : Shape := ⟨0, ![]⟩

class Facts : Prop where
  bcast_S_S8x576x16 : S_.BroadcastsInDim S8x576x16 (![] : Fin 0 → Fin S8x576x16.rank)
  reducesTo_S8x576x16_S_d0_1_2 : S8x576x16.ReducesTo [0, 1, 2] S_
  h_S_ : 0 < S_.numel

variable [Facts]

def fn {F : FTy → Type} [FloatOps F] (main_arg0 : IVec S8x576x16 32) : IVec S_ 1 :=
  let main_c : IVec S_ 32 := constantI S_ 32 0#32
  let main_v0 : IVec S8x576x16 32 := broadcastInDim S8x576x16 ![] bcast_S_S8x576x16 main_c
  let main_v1 : IVec S8x576x16 1 := cmpi .sge main_arg0 main_v0
  let main_c_0 : IVec S_ 32 := constantI S_ 32 576#32
  let main_v2 : IVec S8x576x16 32 := broadcastInDim S8x576x16 ![] bcast_S_S8x576x16 main_c_0
  let main_v3 : IVec S8x576x16 1 := cmpi .slt main_arg0 main_v2
  let main_v4 : IVec S8x576x16 1 := andi main_v1 main_v3
  let main_c_1 : IVec S_ 1 := constantI S_ 1 1#1
  let main_v5 : IVec S_ 1 := (fun x v => Host.reduce IntOp.andi x v reducesTo_S8x576x16_S_d0_1_2 h_S_) main_v4 main_c_1
  main_v5
-- ==== Adj.lean ====
abbrev S8x576x16 : Shape := ⟨3, ![8, 576, 16]⟩
abbrev S8x576x576 : Shape := ⟨3, ![8, 576, 576]⟩
abbrev S144x16 : Shape := ⟨2, ![144, 16]⟩
abbrev S144x576 : Shape := ⟨2, ![144, 576]⟩
abbrev S_ : Shape := ⟨0, ![]⟩
abbrev S1x144x16 : Shape := ⟨3, ![1, 144, 16]⟩
abbrev S16 : Shape := ⟨1, ![16]⟩
abbrev S1x16 : Shape := ⟨2, ![1, 16]⟩
abbrev S1x144x576 : Shape := ⟨3, ![1, 144, 576]⟩

abbrev nBuf : Table → Nat
  | .hbm => 2
  | .local .scVector .vmem => 2
  | _ => 0

abbrev bufTy : (tb : Table) → Fin (nBuf tb) → BufTy
  | .hbm, ⟨0, _⟩ => ⟨S8x576x16, .i32⟩
  | .hbm, ⟨1, _⟩ => ⟨S8x576x576, .f32⟩
  | .local .scVector .vmem, ⟨0, _⟩ => ⟨S144x16, .i32⟩
  | .local .scVector .vmem, ⟨1, _⟩ => ⟨S144x576, .f32⟩
  | _, _ => ⟨S8x576x16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c144_i32 : BitVec 32 := 144#32
  let v29 : BitVec 32 := Scalar.muli v28 c144_i32
  let c0_i32_21_r0 : BitVec 32 := 0#32
  ![v18.toNat, v29.toNat, 0]
@[reducible] def k0_t1_loop : Scf.Loop 32 :=
  let c0_i32_12 : BitVec 32 := 0#32
  let c144_i32_13 : BitVec 32 := 144#32
  let v35 : BitVec 32 := Scalar.addi c0_i32_12 c144_i32_13
  let c1_i32_14 : BitVec 32 := 1#32
  ⟨c0_i32_12, v35, c1_i32_14⟩
def k0_off2 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v39 : Index := Scalar.indexCast arg6
  let c0 : Index := 0#32
  ![v39.toNat, 0]
def k0_off3 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v41 : Index := Scalar.indexCast arg6
  let c16 : Index := 16#32
  ![v41.toNat, 16]
def k0_off4 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v43 : Index := Scalar.indexCast arg6
  let c32 : Index := 32#32
  ![v43.toNat, 32]
def k0_off5 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v45 : Index := Scalar.indexCast arg6
  let c48 : Index := 48#32
  ![v45.toNat, 48]
def k0_off6 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v47 : Index := Scalar.indexCast arg6
  let c64 : Index := 64#32
  ![v47.toNat, 64]
def k0_off7 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v49 : Index := Scalar.indexCast arg6
  let c80 : Index := 80#32
  ![v49.toNat, 80]
def k0_off8 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v51 : Index := Scalar.indexCast arg6
  let c96 : Index := 96#32
  ![v51.toNat, 96]
def k0_off9 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v53 : Index := Scalar.indexCast arg6
  let c112 : Index := 112#32
  ![v53.toNat, 112]
def k0_off10 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v55 : Index := Scalar.indexCast arg6
  let c128 : Index := 128#32
  ![v55.toNat, 128]
def k0_off11 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v57 : Index := Scalar.indexCast arg6
  let c144 : Index := 144#32
  ![v57.toNat, 144]
def k0_off12 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v59 : Index := Scalar.indexCast arg6
  let c160 : Index := 160#32
  ![v59.toNat, 160]
def k0_off13 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v61 : Index := Scalar.indexCast arg6
  let c176 : Index := 176#32
  ![v61.toNat, 176]
def k0_off14 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v63 : Index := Scalar.indexCast arg6
  let c192 : Index := 192#32
  ![v63.toNat, 192]
def k0_off15 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v65 : Index := Scalar.indexCast arg6
  let c208 : Index := 208#32
  ![v65.toNat, 208]
def k0_off16 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v67 : Index := Scalar.indexCast arg6
  let c224 : Index := 224#32
  ![v67.toNat, 224]
def k0_off17 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v69 : Index := Scalar.indexCast arg6
  let c240 : Index := 240#32
  ![v69.toNat, 240]
def k0_off18 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v71 : Index := Scalar.indexCast arg6
  let c256 : Index := 256#32
  ![v71.toNat, 256]
def k0_off19 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v73 : Index := Scalar.indexCast arg6
  let c272 : Index := 272#32
  ![v73.toNat, 272]
def k0_off20 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v75 : Index := Scalar.indexCast arg6
  let c288 : Index := 288#32
  ![v75.toNat, 288]
def k0_off21 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v77 : Index := Scalar.indexCast arg6
  let c304 : Index := 304#32
  ![v77.toNat, 304]
def k0_off22 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v79 : Index := Scalar.indexCast arg6
  let c320 : Index := 320#32
  ![v79.toNat, 320]
def k0_off23 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v81 : Index := Scalar.indexCast arg6
  let c336 : Index := 336#32
  ![v81.toNat, 336]
def k0_off24 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v83 : Index := Scalar.indexCast arg6
  let c352 : Index := 352#32
  ![v83.toNat, 352]
def k0_off25 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v85 : Index := Scalar.indexCast arg6
  let c368 : Index := 368#32
  ![v85.toNat, 368]
def k0_off26 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v87 : Index := Scalar.indexCast arg6
  let c384 : Index := 384#32
  ![v87.toNat, 384]
def k0_off27 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v89 : Index := Scalar.indexCast arg6
  let c400 : Index := 400#32
  ![v89.toNat, 400]
def k0_off28 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v91 : Index := Scalar.indexCast arg6
  let c416 : Index := 416#32
  ![v91.toNat, 416]
def k0_off29 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v93 : Index := Scalar.indexCast arg6
  let c432 : Index := 432#32
  ![v93.toNat, 432]
def k0_off30 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v95 : Index := Scalar.indexCast arg6
  let c448 : Index := 448#32
  ![v95.toNat, 448]
def k0_off31 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v97 : Index := Scalar.indexCast arg6
  let c464 : Index := 464#32
  ![v97.toNat, 464]
def k0_off32 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v99 : Index := Scalar.indexCast arg6
  let c480 : Index := 480#32
  ![v99.toNat, 480]
def k0_off33 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v101 : Index := Scalar.indexCast arg6
  let c496 : Index := 496#32
  ![v101.toNat, 496]
def k0_off34 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v103 : Index := Scalar.indexCast arg6
  let c512 : Index := 512#32
  ![v103.toNat, 512]
def k0_off35 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v105 : Index := Scalar.indexCast arg6
  let c528 : Index := 528#32
  ![v105.toNat, 528]
def k0_off36 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v107 : Index := Scalar.indexCast arg6
  let c544 : Index := 544#32
  ![v107.toNat, 544]
def k0_off37 (k0_t1 : Fin k0_t1_loop.trips) : Fin 2 → Nat :=
  let c0_i32_12 : BitVec 32 := 0#32
  let c1_i32_14 : BitVec 32 := 1#32
  let arg6 : BitVec 32 := Scf.iv c0_i32_12 c1_i32_14 k0_t1
  let v109 : Index := Scalar.indexCast arg6
  let c560 : Index := 560#32
  ![v109.toNat, 560]
@[reducible] def k0_t2_loop : Scf.Loop 32 :=
  let c0_i32_17 : BitVec 32 := 0#32
  let c144_i32_18 : BitVec 32 := 144#32
  let v37 : BitVec 32 := Scalar.addi c0_i32_17 c144_i32_18
  let c1_i32_19 : BitVec 32 := 1#32
  ⟨c0_i32_17, v37, c1_i32_19⟩
def k0_off38 (k0_t2 : Fin k0_t2_loop.trips) : Fin 2 → Nat :=
  let c0_i32_17 : BitVec 32 := 0#32
  let c1_i32_19 : BitVec 32 := 1#32
  let arg6 : BitVec 32 := Scf.iv c0_i32_17 c1_i32_19 k0_t2
  let v39 : Index := Scalar.indexCast arg6
  let c0 : Index := 0#32
  ![v39.toNat, 0]

def k0_chk1 (v40 : IVec S16 32) (v43 : IVec S16 32) : Prop :=
  (∀ a x, ((![v43, v40] : Fin 2 → IVec S16 32) a x).toNat < S144x576.size a)
theorem k0_idx1_inb : ∀ (v40 : IVec S16 32) (v43 : IVec S16 32) (k0_hw1 : k0_chk1 v40 v43), ∀ a x, ((![v43, v40] : Fin 2 → IVec S16 32) a x).toNat < S144x576.size a := fun v40 v43 k0_hw1 => k0_hw1
def k0_off39 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c144_i32 : BitVec 32 := 144#32
  let v29 : BitVec 32 := Scalar.muli v28 c144_i32
  let c0_i32_21_r1 : BitVec 32 := 0#32
  ![v18.toNat, v29.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== AdjRefIdeal.lean ====
abbrev S8x576x16 : Shape := ⟨3, ![8, 576, 16]⟩
abbrev S8x576x7 : Shape := ⟨3, ![8, 576, 7]⟩
abbrev S8x576x7x1 : Shape := ⟨4, ![8, 576, 7, 1]⟩
abbrev S576 : Shape := ⟨1, ![576]⟩
abbrev S1x1x1x576 : Shape := ⟨4, ![1, 1, 1, 576]⟩
abbrev S8x576x7x576 : Shape := ⟨4, ![8, 576, 7, 576]⟩
abbrev S_ : Shape := ⟨0, ![]⟩
abbrev S8x576x576 : Shape := ⟨3, ![8, 576, 576]⟩

abbrev nBuf : Space → Nat
  | .hbm => 11
  | .vmem => 0
  | .smem => 0
  | _ => 0

abbrev bufTy : (tb : Table) → Fin (tcTables nBuf tb) → BufTy
  | .hbm, ⟨0, _⟩ => ⟨S8x576x16, .i32⟩
  | .hbm, ⟨1, _⟩ => ⟨S8x576x7, .i32⟩
  | .hbm, ⟨2, _⟩ => ⟨S8x576x7x1, .i32⟩
  | .hbm, ⟨3, _⟩ => ⟨S576, .i32⟩
  | .hbm, ⟨4, _⟩ => ⟨S1x1x1x576, .i32⟩
  | .hbm, ⟨5, _⟩ => ⟨S8x576x7x576, .i32⟩
  | .hbm, ⟨6, _⟩ => ⟨S8x576x7x576, .i32⟩
  | .hbm, ⟨7, _⟩ => ⟨S8x576x7x576, .i1⟩
  | .hbm, ⟨8, _⟩ => ⟨S_, .i1⟩
  | .hbm, ⟨9, _⟩ => ⟨S8x576x576, .i1⟩
  | .hbm, ⟨10, _⟩ => ⟨S8x576x576, .f32⟩
  | _, _ => ⟨S8x576x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== WholeIdeal.lean ====
abbrev S8x3x384x384 : Shape := ⟨4, ![8, 3, 384, 384]⟩
abbrev S192x3x16x16 : Shape := ⟨4, ![192, 3, 16, 16]⟩
abbrev S192 : Shape := ⟨1, ![192]⟩
abbrev S9216x384 : Shape := ⟨2, ![9216, 384]⟩
abbrev S8x576x768 : Shape := ⟨3, ![8, 576, 768]⟩
abbrev S144x384 : Shape := ⟨2, ![144, 384]⟩
abbrev S72x768 : Shape := ⟨2, ![72, 768]⟩
abbrev S_ : Shape := ⟨0, ![]⟩
abbrev S48x384 : Shape := ⟨2, ![48, 384]⟩
abbrev S16 : Shape := ⟨1, ![16]⟩
abbrev S1x16 : Shape := ⟨2, ![1, 16]⟩
abbrev S1x72x768 : Shape := ⟨3, ![1, 72, 768]⟩
abbrev S192x768 : Shape := ⟨2, ![192, 768]⟩
abbrev S768x192 : Shape := ⟨2, ![768, 192]⟩
abbrev S1x192 : Shape := ⟨2, ![1, 192]⟩
abbrev S8x576x192 : Shape := ⟨3, ![8, 576, 192]⟩
abbrev S8x576x16 : Shape := ⟨3, ![8, 576, 16]⟩
abbrev S1x576x768 : Shape := ⟨3, ![1, 576, 768]⟩
abbrev S1x576x192 : Shape := ⟨3, ![1, 576, 192]⟩
abbrev S1x576x16 : Shape := ⟨3, ![1, 576, 16]⟩
abbrev S576x768 : Shape := ⟨2, ![576, 768]⟩
abbrev S576x192 : Shape := ⟨2, ![576, 192]⟩
abbrev S576x576 : Shape := ⟨2, ![576, 576]⟩
abbrev S576 : Shape := ⟨1, ![576]⟩
abbrev S576x1 : Shape := ⟨2, ![576, 1]⟩
abbrev S1x576 : Shape := ⟨2, ![1, 576]⟩
abbrev S576x16 : Shape := ⟨2, ![576, 16]⟩
abbrev S8x576x576 : Shape := ⟨3, ![8, 576, 576]⟩
abbrev S144x16 : Shape := ⟨2, ![144, 16]⟩
abbrev S144x576 : Shape := ⟨2, ![144, 576]⟩
abbrev S1x144x16 : Shape := ⟨3, ![1, 144, 16]⟩
abbrev S1x144x576 : Shape := ⟨3, ![1, 144, 576]⟩

abbrev nBuf : Table → Nat
  | .hbm => 11
  | .local .tc .vmem => 8
  | .local .scVector .vmem => 4
  | _ => 0

abbrev bufTy : (tb : Table) → Fin (nBuf tb) → BufTy
  | .hbm, ⟨0, _⟩ => ⟨S8x3x384x384, .f32⟩
  | .hbm, ⟨1, _⟩ => ⟨S192x3x16x16, .f32⟩
  | .hbm, ⟨2, _⟩ => ⟨S192, .f32⟩
  | .hbm, ⟨3, _⟩ => ⟨S9216x384, .f32⟩
  | .hbm, ⟨4, _⟩ => ⟨S8x576x768, .f32⟩
  | .hbm, ⟨5, _⟩ => ⟨S192x768, .f32⟩
  | .hbm, ⟨6, _⟩ => ⟨S768x192, .f32⟩
  | .hbm, ⟨7, _⟩ => ⟨S1x192, .f32⟩
  | .hbm, ⟨8, _⟩ => ⟨S8x576x192, .f32⟩
  | .hbm, ⟨9, _⟩ => ⟨S8x576x16, .i32⟩
  | .hbm, ⟨10, _⟩ => ⟨S8x576x576, .f32⟩
  | .local .tc .vmem, ⟨0, _⟩ => ⟨S1x576x768, .f32⟩
  | .local .tc .vmem, ⟨1, _⟩ => ⟨S1x576x768, .f32⟩
  | .local .tc .vmem, ⟨2, _⟩ => ⟨S768x192, .f32⟩
  | .local .tc .vmem, ⟨3, _⟩ => ⟨S1x192, .f32⟩
  | .local .tc .vmem, ⟨4, _⟩ => ⟨S1x576x192, .f32⟩
  | .local .tc .vmem, ⟨5, _⟩ => ⟨S1x576x192, .f32⟩
  | .local .tc .vmem, ⟨6, _⟩ => ⟨S1x576x16, .i32⟩
  | .local .tc .vmem, ⟨7, _⟩ => ⟨S1x576x16, .i32⟩
  | .local .scVector .vmem, ⟨0, _⟩ => ⟨S144x384, .f32⟩
  | .local .scVector .vmem, ⟨1, _⟩ => ⟨S72x768, .f32⟩
  | .local .scVector .vmem, ⟨2, _⟩ => ⟨S144x16, .i32⟩
  | .local .scVector .vmem, ⟨3, _⟩ => ⟨S144x576, .f32⟩
  | _, _ => ⟨S8x3x384x384, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v6 : Ref sig .tc := ⟨.hbm, 10, rfl⟩
abbrev main_v0_scv : Ref sig .scVector := ⟨.hbm, 3, rfl⟩
abbrev main_v1_scv : Ref sig .scVector := ⟨.hbm, 4, rfl⟩
abbrev main_v5_1_scv : Ref sig .scVector := ⟨.hbm, 9, rfl⟩
abbrev main_v6_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg4_0 : Ref sig .tc := ⟨.vmem, 6, rfl⟩
abbrev cc1_stg4_1 : Ref sig .tc := ⟨.vmem, 7, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem4_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F] [Named F]

def κ : String → Option EReal := fun
  | "big" => some ⊤
  | _ => none

abbrev grid0 : Pipeline.Grid := ⟨2, ![2, 16], ![false, false]⟩

def k0_off1 (i : grid0.Coords) (c0_i32_11 : BitVec 32) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32 : BitVec 32 := 3#32
  let v31 : BitVec 32 := Scalar.muli v18 c3_i32
  let v32 : BitVec 32 := Scalar.addi v31 c0_i32_11
  let c384_i32 : BitVec 32 := 384#32
  let v33 : BitVec 32 := Scalar.muli v32 c384_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32 : BitVec 32 := 6#32
  let v29 : BitVec 32 := Scalar.muli v28 c6_i32
  let v30 : BitVec 32 := Scalar.addi v29 c0_i32_10
  let c16_i32 : BitVec 32 := 16#32
  let v34 : BitVec 32 := Scalar.muli v30 c16_i32
  let v35 : BitVec 32 := Scalar.addi v33 v34
  let c0_i32_65_r0 : BitVec 32 := 0#32
  ![v35.toNat, 0]
@[reducible] def k0_t1_loop : Scf.Loop 32 :=
  let c0_i32_21 : BitVec 32 := 0#32
  let c48_i32 : BitVec 32 := 48#32
  let v46 : BitVec 32 := Scalar.addi c0_i32_21 c48_i32
  let c1_i32_22 : BitVec 32 := 1#32
  ⟨c0_i32_21, v46, c1_i32_22⟩
def k0_off2 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off3 (k0_t1 : Fin k0_t1_loop.trips) (c0_i32_81 : BitVec 32) : Fin 2 → Nat :=
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_80 : BitVec 32 := 24#32
  let v108 : BitVec 32 := Scalar.muli v102 c24_i32_80
  let v111 : BitVec 32 := Scalar.addi v108 c0_i32_81
  let v112 : Index := Scalar.indexCast v111
  let c0_i32_76 : BitVec 32 := 0#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c0_i32_76 v92
  let c16_i32_77 : BitVec 32 := 16#32
  let v104 : BitVec 32 := Scalar.muli v103 c16_i32_77
  let v113 : Index := Scalar.indexCast v104
  ![v112.toNat, v113.toNat]
def k0_off4 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off5 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off6 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off7 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off8 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off9 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off10 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off11 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off12 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off13 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off14 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off15 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off16 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off17 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off18 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off19 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off20 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off21 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off22 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off23 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off24 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off25 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off26 (k0_t1 : Fin k0_t1_loop.trips) : Fin 2 → Nat :=
  let c0_i32_79 : BitVec 32 := 0#32
  let c0_i32_21 : BitVec 32 := 0#32
  let c1_i32_22 : BitVec 32 := 1#32
  let arg7 : BitVec 32 := Scf.iv c0_i32_21 c1_i32_22 k0_t1
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
@[reducible] def k0_t2_loop : Scf.Loop 32 :=
  let c0_i32_25 : BitVec 32 := 0#32
  let c48_i32_26 : BitVec 32 := 48#32
  let v48 : BitVec 32 := Scalar.addi c0_i32_25 c48_i32_26
  let c1_i32_27 : BitVec 32 := 1#32
  ⟨c0_i32_25, v48, c1_i32_27⟩
def k0_off27 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off28 (k0_t2 : Fin k0_t2_loop.trips) (c0_i32_81 : BitVec 32) : Fin 2 → Nat :=
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_80 : BitVec 32 := 24#32
  let v108 : BitVec 32 := Scalar.muli v102 c24_i32_80
  let v111 : BitVec 32 := Scalar.addi v108 c0_i32_81
  let v112 : Index := Scalar.indexCast v111
  let c16_i32_76 : BitVec 32 := 16#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c16_i32_76 v92
  let c16_i32_77 : BitVec 32 := 16#32
  let v104 : BitVec 32 := Scalar.muli v103 c16_i32_77
  let v113 : Index := Scalar.indexCast v104
  ![v112.toNat, v113.toNat]
def k0_off29 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off30 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off31 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off32 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off33 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off34 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off35 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off36 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off37 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off38 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off39 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off40 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off41 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off42 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off43 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off44 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off45 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off46 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off47 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off48 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off49 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off50 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off51 (k0_t2 : Fin k0_t2_loop.trips) : Fin 2 → Nat :=
  let c48_i32_79 : BitVec 32 := 48#32
  let c0_i32_25 : BitVec 32 := 0#32
  let c1_i32_27 : BitVec 32 := 1#32
  let arg7 : BitVec 32 := Scf.iv c0_i32_25 c1_i32_27 k0_t2
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
@[reducible] def k0_t3_loop : Scf.Loop 32 :=
  let c0_i32_30 : BitVec 32 := 0#32
  let c48_i32_31 : BitVec 32 := 48#32
  let v50 : BitVec 32 := Scalar.addi c0_i32_30 c48_i32_31
  let c1_i32_32 : BitVec 32 := 1#32
  ⟨c0_i32_30, v50, c1_i32_32⟩
def k0_off52 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off53 (k0_t3 : Fin k0_t3_loop.trips) (c0_i32_79 : BitVec 32) : Fin 2 → Nat :=
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_78 : BitVec 32 := 24#32
  let v108 : BitVec 32 := Scalar.muli v102 c24_i32_78
  let v111 : BitVec 32 := Scalar.addi v108 c0_i32_79
  let v112 : Index := Scalar.indexCast v111
  let c32_i32 : BitVec 32 := 32#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c32_i32 v92
  let c16_i32_76 : BitVec 32 := 16#32
  let v104 : BitVec 32 := Scalar.muli v103 c16_i32_76
  let v113 : Index := Scalar.indexCast v104
  ![v112.toNat, v113.toNat]
def k0_off54 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off55 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off56 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off57 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off58 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off59 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off60 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off61 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off62 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off63 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off64 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off65 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off66 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off67 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off68 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off69 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off70 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off71 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off72 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off73 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off74 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off75 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off76 (k0_t3 : Fin k0_t3_loop.trips) : Fin 2 → Nat :=
  let c96_i32 : BitVec 32 := 96#32
  let c0_i32_30 : BitVec 32 := 0#32
  let c1_i32_32 : BitVec 32 := 1#32
  let arg7 : BitVec 32 := Scf.iv c0_i32_30 c1_i32_32 k0_t3
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
def k0_off77 (i : grid0.Coords) (c0_i32_10 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c6_i32 : BitVec 32 := 6#32
  let v29 : BitVec 32 := Scalar.muli v28 c6_i32
  let v30 : BitVec 32 := Scalar.addi v29 c0_i32_10
  let c24_i32 : BitVec 32 := 24#32
  let v52 : BitVec 32 := Scalar.muli v30 c24_i32
  let c0_i32_63_r3 : BitVec 32 := 0#32
  ![v18.toNat, v52.toNat, 0]
@[reducible] def k0_t4_loop : Scf.Loop 32 :=
  let c0_i32_48 : BitVec 32 := 0#32
  let c48_i32_49 : BitVec 32 := 48#32
  let v69 : BitVec 32 := Scalar.addi c0_i32_48 c48_i32_49
  let c1_i32_50 : BitVec 32 := 1#32
  ⟨c0_i32_48, v69, c1_i32_50⟩
def k0_off78 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off79 (k0_t4 : Fin k0_t4_loop.trips) (c0_i32_81 : BitVec 32) : Fin 2 → Nat :=
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_80 : BitVec 32 := 24#32
  let v108 : BitVec 32 := Scalar.muli v102 c24_i32_80
  let v111 : BitVec 32 := Scalar.addi v108 c0_i32_81
  let v112 : Index := Scalar.indexCast v111
  let c0_i32_76 : BitVec 32 := 0#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c0_i32_76 v92
  let c16_i32_77 : BitVec 32 := 16#32
  let v104 : BitVec 32 := Scalar.muli v103 c16_i32_77
  let v113 : Index := Scalar.indexCast v104
  ![v112.toNat, v113.toNat]
def k0_off80 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off81 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off82 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off83 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off84 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off85 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off86 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off87 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off88 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off89 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off90 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off91 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off92 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off93 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off94 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off95 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off96 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off97 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off98 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off99 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off100 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off101 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off102 (k0_t4 : Fin k0_t4_loop.trips) : Fin 2 → Nat :=
  let c0_i32_79 : BitVec 32 := 0#32
  let c0_i32_48 : BitVec 32 := 0#32
  let c1_i32_50 : BitVec 32 := 1#32
  let arg7 : BitVec 32 := Scf.iv c0_i32_48 c1_i32_50 k0_t4
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c0_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
@[reducible] def k0_t5_loop : Scf.Loop 32 :=
  let c0_i32_53 : BitVec 32 := 0#32
  let c48_i32_54 : BitVec 32 := 48#32
  let v71 : BitVec 32 := Scalar.addi c0_i32_53 c48_i32_54
  let c1_i32_55 : BitVec 32 := 1#32
  ⟨c0_i32_53, v71, c1_i32_55⟩
def k0_off103 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off104 (k0_t5 : Fin k0_t5_loop.trips) (c0_i32_81 : BitVec 32) : Fin 2 → Nat :=
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_80 : BitVec 32 := 24#32
  let v108 : BitVec 32 := Scalar.muli v102 c24_i32_80
  let v111 : BitVec 32 := Scalar.addi v108 c0_i32_81
  let v112 : Index := Scalar.indexCast v111
  let c16_i32_76 : BitVec 32 := 16#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c16_i32_76 v92
  let c16_i32_77 : BitVec 32 := 16#32
  let v104 : BitVec 32 := Scalar.muli v103 c16_i32_77
  let v113 : Index := Scalar.indexCast v104
  ![v112.toNat, v113.toNat]
def k0_off105 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off106 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off107 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off108 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off109 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off110 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off111 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off112 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off113 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off114 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off115 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off116 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off117 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off118 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off119 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off120 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off121 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off122 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off123 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off124 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off125 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off126 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off127 (k0_t5 : Fin k0_t5_loop.trips) : Fin 2 → Nat :=
  let c48_i32_79 : BitVec 32 := 48#32
  let c0_i32_53 : BitVec 32 := 0#32
  let c1_i32_55 : BitVec 32 := 1#32
  let arg7 : BitVec 32 := Scf.iv c0_i32_53 c1_i32_55 k0_t5
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_78 : BitVec 32 := 16#32
  let v105 : BitVec 32 := Scalar.muli v102 c16_i32_78
  let v106 : BitVec 32 := Scalar.addi c48_i32_79 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
@[reducible] def k0_t6_loop : Scf.Loop 32 :=
  let c0_i32_58 : BitVec 32 := 0#32
  let c48_i32_59 : BitVec 32 := 48#32
  let v73 : BitVec 32 := Scalar.addi c0_i32_58 c48_i32_59
  let c1_i32_60 : BitVec 32 := 1#32
  ⟨c0_i32_58, v73, c1_i32_60⟩
def k0_off128 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v109 : Index := Scalar.indexCast v107
  let c0 : Index := 0#32
  ![v109.toNat, 0]
def k0_off129 (k0_t6 : Fin k0_t6_loop.trips) (c0_i32_79 : BitVec 32) : Fin 2 → Nat :=
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c24_i32_78 : BitVec 32 := 24#32
  let v108 : BitVec 32 := Scalar.muli v102 c24_i32_78
  let v111 : BitVec 32 := Scalar.addi v108 c0_i32_79
  let v112 : Index := Scalar.indexCast v111
  let c32_i32 : BitVec 32 := 32#32
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v103 : BitVec 32 := Scalar.addi c32_i32 v92
  let c16_i32_76 : BitVec 32 := 16#32
  let v104 : BitVec 32 := Scalar.muli v103 c16_i32_76
  let v113 : Index := Scalar.indexCast v104
  ![v112.toNat, v113.toNat]
def k0_off130 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v115 : Index := Scalar.indexCast v107
  let c16 : Index := 16#32
  ![v115.toNat, 16]
def k0_off131 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v121 : Index := Scalar.indexCast v107
  let c32 : Index := 32#32
  ![v121.toNat, 32]
def k0_off132 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v127 : Index := Scalar.indexCast v107
  let c48 : Index := 48#32
  ![v127.toNat, 48]
def k0_off133 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v133 : Index := Scalar.indexCast v107
  let c64 : Index := 64#32
  ![v133.toNat, 64]
def k0_off134 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v139 : Index := Scalar.indexCast v107
  let c80 : Index := 80#32
  ![v139.toNat, 80]
def k0_off135 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v145 : Index := Scalar.indexCast v107
  let c96 : Index := 96#32
  ![v145.toNat, 96]
def k0_off136 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v151 : Index := Scalar.indexCast v107
  let c112 : Index := 112#32
  ![v151.toNat, 112]
def k0_off137 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v157 : Index := Scalar.indexCast v107
  let c128 : Index := 128#32
  ![v157.toNat, 128]
def k0_off138 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v163 : Index := Scalar.indexCast v107
  let c144 : Index := 144#32
  ![v163.toNat, 144]
def k0_off139 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v169 : Index := Scalar.indexCast v107
  let c160 : Index := 160#32
  ![v169.toNat, 160]
def k0_off140 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v175 : Index := Scalar.indexCast v107
  let c176 : Index := 176#32
  ![v175.toNat, 176]
def k0_off141 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v181 : Index := Scalar.indexCast v107
  let c192 : Index := 192#32
  ![v181.toNat, 192]
def k0_off142 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v187 : Index := Scalar.indexCast v107
  let c208 : Index := 208#32
  ![v187.toNat, 208]
def k0_off143 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v193 : Index := Scalar.indexCast v107
  let c224 : Index := 224#32
  ![v193.toNat, 224]
def k0_off144 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v199 : Index := Scalar.indexCast v107
  let c240 : Index := 240#32
  ![v199.toNat, 240]
def k0_off145 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v205 : Index := Scalar.indexCast v107
  let c256 : Index := 256#32
  ![v205.toNat, 256]
def k0_off146 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v211 : Index := Scalar.indexCast v107
  let c272 : Index := 272#32
  ![v211.toNat, 272]
def k0_off147 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v217 : Index := Scalar.indexCast v107
  let c288 : Index := 288#32
  ![v217.toNat, 288]
def k0_off148 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v223 : Index := Scalar.indexCast v107
  let c304 : Index := 304#32
  ![v223.toNat, 304]
def k0_off149 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v229 : Index := Scalar.indexCast v107
  let c320 : Index := 320#32
  ![v229.toNat, 320]
def k0_off150 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v235 : Index := Scalar.indexCast v107
  let c336 : Index := 336#32
  ![v235.toNat, 336]
def k0_off151 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v241 : Index := Scalar.indexCast v107
  let c352 : Index := 352#32
  ![v241.toNat, 352]
def k0_off152 (k0_t6 : Fin k0_t6_loop.trips) : Fin 2 → Nat :=
  let c96_i32 : BitVec 32 := 96#32
  let c0_i32_58 : BitVec 32 := 0#32
  let c1_i32_60 : BitVec 32 := 1#32
  let arg7 : BitVec 32 := Scf.iv c0_i32_58 c1_i32_60 k0_t6
  let c3_i32_70 : BitVec 32 := 3#32
  let c0_i32_71 : BitVec 32 := 0#32
  let v93 : BitVec 1 := Scalar.cmpi .eq c3_i32_70 c0_i32_71
  let c1_i32_72 : BitVec 32 := 1#32
  let v94 : BitVec 32 := Scalar.select v93 c1_i32_72 c3_i32_70
  let v95 : BitVec 32 := Scalar.remsi arg7 v94
  let c0_i32_74 : BitVec 32 := 0#32
  let v97 : BitVec 1 := Scalar.cmpi .slt v95 c0_i32_74
  let c0_i32_75 : BitVec 32 := 0#32
  let v98 : BitVec 1 := Scalar.cmpi .slt v94 c0_i32_75
  let v99 : BitVec 1 := Scalar.xori v97 v98
  let c0_i32_73 : BitVec 32 := 0#32
  let v96 : BitVec 1 := Scalar.cmpi .ne v95 c0_i32_73
  let v100 : BitVec 1 := Scalar.andi v99 v96
  let v101 : BitVec 32 := Scalar.addi v95 v94
  let v102 : BitVec 32 := Scalar.select v100 v101 v95
  let c16_i32_77 : BitVec 32 := 16#32
  let v105 : BitVec 32 := Scalar.muli v102 c16_i32_77
  let v106 : BitVec 32 := Scalar.addi c96_i32 v105
  let c0_i32_64 : BitVec 32 := 0#32
  let v77 : BitVec 1 := Scalar.cmpi .sgt arg7 c0_i32_64
  let v78 : BitVec 32 := Scalar.extui v77
  let c0_i32_65 : BitVec 32 := 0#32
  let v79 : BitVec 1 := Scalar.cmpi .slt arg7 c0_i32_65
  let v80 : BitVec 32 := Scalar.extui v79
  let v81 : BitVec 32 := Scalar.subi v78 v80
  let c3_i32_63 : BitVec 32 := 3#32
  let c0_i32_66 : BitVec 32 := 0#32
  let v82 : BitVec 1 := Scalar.cmpi .sgt c3_i32_63 c0_i32_66
  let v83 : BitVec 32 := Scalar.extui v82
  let c0_i32_67 : BitVec 32 := 0#32
  let v84 : BitVec 1 := Scalar.cmpi .slt c3_i32_63 c0_i32_67
  let v85 : BitVec 32 := Scalar.extui v84
  let v86 : BitVec 32 := Scalar.subi v83 v85
  let v87 : BitVec 1 := Scalar.cmpi .ne v81 v86
  let v88 : BitVec 32 := Scalar.remsi arg7 c3_i32_63
  let c0_i32_68 : BitVec 32 := 0#32
  let v89 : BitVec 1 := Scalar.cmpi .ne v88 c0_i32_68
  let v90 : BitVec 1 := Scalar.andi v87 v89
  let v76 : BitVec 32 := Scalar.divsi arg7 c3_i32_63
  let c1_i32_69 : BitVec 32 := 1#32
  let v91 : BitVec 32 := Scalar.subi v76 c1_i32_69
  let v92 : BitVec 32 := Scalar.select v90 v91 v76
  let v107 : BitVec 32 := Scalar.addi v106 v92
  let v247 : Index := Scalar.indexCast v107
  let c368 : Index := 368#32
  ![v247.toNat, 368]
abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x576x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x576x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x576x16 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c144_i32 : BitVec 32 := 144#32
  let v29 : BitVec 32 := Scalar.muli v28 c144_i32
  let c0_i32_21_r0 : BitVec 32 := 0#32
  ![v18.toNat, v29.toNat, 0]
@[reducible] def k2_t1_loop : Scf.Loop 32 :=
  let c0_i32_12 : BitVec 32 := 0#32
  let c144_i32_13 : BitVec 32 := 144#32
  let v35 : BitVec 32 := Scalar.addi c0_i32_12 c144_i32_13
  let c1_i32_14 : BitVec 32 := 1#32
  ⟨c0_i32_12, v35, c1_i32_14⟩
def k2_off2 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v39 : Index := Scalar.indexCast arg6
  let c0 : Index := 0#32
  ![v39.toNat, 0]
def k2_off3 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v41 : Index := Scalar.indexCast arg6
  let c16 : Index := 16#32
  ![v41.toNat, 16]
def k2_off4 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v43 : Index := Scalar.indexCast arg6
  let c32 : Index := 32#32
  ![v43.toNat, 32]
def k2_off5 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v45 : Index := Scalar.indexCast arg6
  let c48 : Index := 48#32
  ![v45.toNat, 48]
def k2_off6 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v47 : Index := Scalar.indexCast arg6
  let c64 : Index := 64#32
  ![v47.toNat, 64]
def k2_off7 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v49 : Index := Scalar.indexCast arg6
  let c80 : Index := 80#32
  ![v49.toNat, 80]
def k2_off8 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v51 : Index := Scalar.indexCast arg6
  let c96 : Index := 96#32
  ![v51.toNat, 96]
def k2_off9 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v53 : Index := Scalar.indexCast arg6
  let c112 : Index := 112#32
  ![v53.toNat, 112]
def k2_off10 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v55 : Index := Scalar.indexCast arg6
  let c128 : Index := 128#32
  ![v55.toNat, 128]
def k2_off11 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v57 : Index := Scalar.indexCast arg6
  let c144 : Index := 144#32
  ![v57.toNat, 144]
def k2_off12 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v59 : Index := Scalar.indexCast arg6
  let c160 : Index := 160#32
  ![v59.toNat, 160]
def k2_off13 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v61 : Index := Scalar.indexCast arg6
  let c176 : Index := 176#32
  ![v61.toNat, 176]
def k2_off14 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v63 : Index := Scalar.indexCast arg6
  let c192 : Index := 192#32
  ![v63.toNat, 192]
def k2_off15 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v65 : Index := Scalar.indexCast arg6
  let c208 : Index := 208#32
  ![v65.toNat, 208]
def k2_off16 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v67 : Index := Scalar.indexCast arg6
  let c224 : Index := 224#32
  ![v67.toNat, 224]
def k2_off17 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v69 : Index := Scalar.indexCast arg6
  let c240 : Index := 240#32
  ![v69.toNat, 240]
def k2_off18 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v71 : Index := Scalar.indexCast arg6
  let c256 : Index := 256#32
  ![v71.toNat, 256]
def k2_off19 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v73 : Index := Scalar.indexCast arg6
  let c272 : Index := 272#32
  ![v73.toNat, 272]
def k2_off20 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v75 : Index := Scalar.indexCast arg6
  let c288 : Index := 288#32
  ![v75.toNat, 288]
def k2_off21 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v77 : Index := Scalar.indexCast arg6
  let c304 : Index := 304#32
  ![v77.toNat, 304]
def k2_off22 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v79 : Index := Scalar.indexCast arg6
  let c320 : Index := 320#32
  ![v79.toNat, 320]
def k2_off23 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v81 : Index := Scalar.indexCast arg6
  let c336 : Index := 336#32
  ![v81.toNat, 336]
def k2_off24 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v83 : Index := Scalar.indexCast arg6
  let c352 : Index := 352#32
  ![v83.toNat, 352]
def k2_off25 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v85 : Index := Scalar.indexCast arg6
  let c368 : Index := 368#32
  ![v85.toNat, 368]
def k2_off26 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v87 : Index := Scalar.indexCast arg6
  let c384 : Index := 384#32
  ![v87.toNat, 384]
def k2_off27 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v89 : Index := Scalar.indexCast arg6
  let c400 : Index := 400#32
  ![v89.toNat, 400]
def k2_off28 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v91 : Index := Scalar.indexCast arg6
  let c416 : Index := 416#32
  ![v91.toNat, 416]
def k2_off29 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v93 : Index := Scalar.indexCast arg6
  let c432 : Index := 432#32
  ![v93.toNat, 432]
def k2_off30 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v95 : Index := Scalar.indexCast arg6
  let c448 : Index := 448#32
  ![v95.toNat, 448]
def k2_off31 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v97 : Index := Scalar.indexCast arg6
  let c464 : Index := 464#32
  ![v97.toNat, 464]
def k2_off32 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v99 : Index := Scalar.indexCast arg6
  let c480 : Index := 480#32
  ![v99.toNat, 480]
def k2_off33 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v101 : Index := Scalar.indexCast arg6
  let c496 : Index := 496#32
  ![v101.toNat, 496]
def k2_off34 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v103 : Index := Scalar.indexCast arg6
  let c512 : Index := 512#32
  ![v103.toNat, 512]
def k2_off35 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v105 : Index := Scalar.indexCast arg6
  let c528 : Index := 528#32
  ![v105.toNat, 528]
def k2_off36 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v107 : Index := Scalar.indexCast arg6
  let c544 : Index := 544#32
  ![v107.toNat, 544]
def k2_off37 (k2_t1 : Fin k2_t1_loop.trips) : Fin 2 → Nat :=
  let c0_i32_12 : BitVec 32 := 0#32
  let c1_i32_14 : BitVec 32 := 1#32
  let arg6 : BitVec 32 := Scf.iv c0_i32_12 c1_i32_14 k2_t1
  let v109 : Index := Scalar.indexCast arg6
  let c560 : Index := 560#32
  ![v109.toNat, 560]
@[reducible] def k2_t2_loop : Scf.Loop 32 :=
  let c0_i32_17 : BitVec 32 := 0#32
  let c144_i32_18 : BitVec 32 := 144#32
  let v37 : BitVec 32 := Scalar.addi c0_i32_17 c144_i32_18
  let c1_i32_19 : BitVec 32 := 1#32
  ⟨c0_i32_17, v37, c1_i32_19⟩
def k2_off38 (k2_t2 : Fin k2_t2_loop.trips) : Fin 2 → Nat :=
  let c0_i32_17 : BitVec 32 := 0#32
  let c1_i32_19 : BitVec 32 := 1#32
  let arg6 : BitVec 32 := Scf.iv c0_i32_17 c1_i32_19 k2_t2
  let v39 : Index := Scalar.indexCast arg6
  let c0 : Index := 0#32
  ![v39.toNat, 0]

def k2_chk1 (v40 : IVec S16 32) (v43 : IVec S16 32) : Prop :=
  (∀ a x, ((![v43, v40] : Fin 2 → IVec S16 32) a x).toNat < S144x576.size a)
theorem k2_idx1_inb : ∀ (v40 : IVec S16 32) (v43 : IVec S16 32) (k2_hw1 : k2_chk1 v40 v43), ∀ a x, ((![v43, v40] : Fin 2 → IVec S16 32) a x).toNat < S144x576.size a := fun v40 v43 k2_hw1 => k2_hw1
def k2_off39 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c144_i32 : BitVec 32 := 144#32
  let v29 : BitVec 32 := Scalar.muli v28 c144_i32
  let c0_i32_21_r1 : BitVec 32 := 0#32
  ![v18.toNat, v29.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== WholeRefIdeal.lean ====
abbrev S8x3x384x384 : Shape := ⟨4, ![8, 3, 384, 384]⟩
abbrev S192x3x16x16 : Shape := ⟨4, ![192, 3, 16, 16]⟩
abbrev S192 : Shape := ⟨1, ![192]⟩
abbrev S8x3x24x16x24x16 : Shape := ⟨6, ![8, 3, 24, 16, 24, 16]⟩
abbrev S8x24x24x192 : Shape := ⟨4, ![8, 24, 24, 192]⟩
abbrev S8x192x24x24 : Shape := ⟨4, ![8, 192, 24, 24]⟩
abbrev S1x192x1x1 : Shape := ⟨4, ![1, 192, 1, 1]⟩
abbrev S8x192x576 : Shape := ⟨3, ![8, 192, 576]⟩
abbrev S8x576x192 : Shape := ⟨3, ![8, 576, 192]⟩
abbrev S_ : Shape := ⟨0, ![]⟩
abbrev S8x576 : Shape := ⟨2, ![8, 576]⟩
abbrev S8x576x576 : Shape := ⟨3, ![8, 576, 576]⟩
abbrev S8x576x1 : Shape := ⟨3, ![8, 576, 1]⟩
abbrev S8x1x576 : Shape := ⟨3, ![8, 1, 576]⟩

abbrev nBuf : Space → Nat
  | .hbm => 38
  | .vmem => 0
  | .smem => 0
  | _ => 0

abbrev bufTy : (tb : Table) → Fin (tcTables nBuf tb) → BufTy
  | .hbm, ⟨0, _⟩ => ⟨S8x3x384x384, .f32⟩
  | .hbm, ⟨1, _⟩ => ⟨S192x3x16x16, .f32⟩
  | .hbm, ⟨2, _⟩ => ⟨S192, .f32⟩
  | .hbm, ⟨3, _⟩ => ⟨S8x3x24x16x24x16, .f32⟩
  | .hbm, ⟨4, _⟩ => ⟨S8x24x24x192, .f32⟩
  | .hbm, ⟨5, _⟩ => ⟨S8x192x24x24, .f32⟩
  | .hbm, ⟨6, _⟩ => ⟨S1x192x1x1, .f32⟩
  | .hbm, ⟨7, _⟩ => ⟨S8x192x24x24, .f32⟩
  | .hbm, ⟨8, _⟩ => ⟨S8x192x24x24, .f32⟩
  | .hbm, ⟨9, _⟩ => ⟨S8x192x576, .f32⟩
  | .hbm, ⟨10, _⟩ => ⟨S8x576x192, .f32⟩
  | .hbm, ⟨11, _⟩ => ⟨S8x576x192, .f32⟩
  | .hbm, ⟨12, _⟩ => ⟨S_, .f32⟩
  | .hbm, ⟨13, _⟩ => ⟨S8x576, .f32⟩
  | .hbm, ⟨14, _⟩ => ⟨S8x576x576, .f32⟩
  | .hbm, ⟨15, _⟩ => ⟨S8x576x1, .f32⟩
  | .hbm, ⟨16, _⟩ => ⟨S8x1x576, .f32⟩
  | .hbm, ⟨17, _⟩ => ⟨S8x576x576, .f32⟩
  | .hbm, ⟨18, _⟩ => ⟨S8x576x576, .f32⟩
  | .hbm, ⟨19, _⟩ => ⟨S8x576x576, .f32⟩
  | .hbm, ⟨20, _⟩ => ⟨S_, .f32⟩
  | .hbm, ⟨21, _⟩ => ⟨S8x576x576, .f32⟩
  | .hbm, ⟨22, _⟩ => ⟨S8x576x576, .f32⟩
  | .hbm, ⟨23, _⟩ => ⟨S8x576x576, .f32⟩
  | .hbm, ⟨24, _⟩ => ⟨S_, .f32⟩
  | .hbm, ⟨25, _⟩ => ⟨S8x576x576, .f32⟩
  | .hbm, ⟨26, _⟩ => ⟨S8x576x576, .f32⟩
  | .hbm, ⟨27, _⟩ => ⟨S8x576x576, .f32⟩
  | .hbm, ⟨28, _⟩ => ⟨S8x576x576, .i32⟩
  | .hbm, ⟨29, _⟩ => ⟨S8x576x576, .f32⟩
  | .hbm, ⟨30, _⟩ => ⟨S8x576x576, .i32⟩
  | .hbm, ⟨31, _⟩ => ⟨S8x576x576, .i32⟩
  | .hbm, ⟨32, _⟩ => ⟨S8x576x576, .i32⟩
  | .hbm, ⟨33, _⟩ => ⟨S8x576x576, .i32⟩
  | .hbm, ⟨34, _⟩ => ⟨S_, .i32⟩
  | .hbm, ⟨35, _⟩ => ⟨S8x576x576, .i32⟩
  | .hbm, ⟨36, _⟩ => ⟨S8x576x576, .i1⟩
  | .hbm, ⟨37, _⟩ => ⟨S8x576x576, .f32⟩
  | _, _ => ⟨S8x3x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1_0 : Ref sig .tc := ⟨.hbm, 29, rfl⟩
abbrev main_v22 : Ref sig .tc := ⟨.hbm, 30, rfl⟩
abbrev main_call1_v0 : Ref sig .tc := ⟨.hbm, 31, rfl⟩
abbrev main_call1_v1_0 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]
-- ==== Proof.AdjPure.lean ====
module

public import Idealize.ShloMosaic.Lib.Writes
public import Idealize.ShloMosaic.Lib.WritesUnit
public import Idealize.ShloMosaic.Lib.ValueIdxCore
public import Idealize.ShloMosaic.Lib.ValueLayout

@[expose] public section

noncomputable section

/-! # The adjacency of one block of rows, and the pieces of the arrays the tiles own

Tile number `w` (of 32) owns, of an array of 8 × 576 rows, the 144 rows from row `144 * (w % 4)` of batch `w / 4`. The adjacency
of a list of column numbers is one at the columns the first seven entries name and zero elsewhere. -/

namespace Cert.Proof.AdjPure

open Idealize.ShloMosaic Idealize.ShloMosaic.ValueIdx

/-- The rows tile `w` owns. -/
def own (W : ℕ) (w : ℕ) : Finset (⟨3, ![8, 576, W]⟩ : Shape).Idx :=
  Finset.univ.filter fun i => (i (0 : Fin 3)).val * 4 + (i (1 : Fin 3)).val / 144 = w

theorem mem_own {W w : ℕ} (i : (⟨3, ![8, 576, W]⟩ : Shape).Idx) :
    i ∈ own W w ↔ (i (0 : Fin 3)).val * 4 + (i (1 : Fin 3)).val / 144 = w := by
  unfold own; rw [Finset.mem_filter, and_iff_right (Finset.mem_univ i)]

/-- The two tiles `2 * s + c` of one number of subcore and core own disjoint rows. -/
theorem own_disjoint {W w w' : ℕ} (h : w ≠ w') : Disjoint (own W w) (own W w') :=
  Finset.disjoint_left.mpr fun i h1 h2 => h (((mem_own i).mp h1).symm.trans ((mem_own i).mp h2))

/-- All the tiles' rows are all the rows. -/
theorem own_cover (W : ℕ) :
    (Finset.univ : Finset (Fin 2 × Fin 16)).biUnion (fun p => own W (p.2.val * 2 + p.1.val)) = Finset.univ := by
  refine Finset.eq_univ_of_forall fun i => Finset.mem_biUnion.mpr ?_
  have h0 : (i (0 : Fin 3)).val < 8 := (i (0 : Fin 3)).isLt
  have h1 : (i (1 : Fin 3)).val < 576 := (i (1 : Fin 3)).isLt
  refine ⟨(⟨((i (0 : Fin 3)).val * 4 + (i (1 : Fin 3)).val / 144) % 2, by omega⟩,
    ⟨((i (0 : Fin 3)).val * 4 + (i (1 : Fin 3)).val / 144) / 2, by omega⟩), Finset.mem_univ _, (mem_own i).mpr ?_⟩
  show _ = ((i (0 : Fin 3)).val * 4 + (i (1 : Fin 3)).val / 144) / 2 * 2 + ((i (0 : Fin 3)).val * 4 + (i (1 : Fin 3)).val / 144) % 2
  omega

theorem own_pairwise (W : ℕ) : ∀ p ∈ (Finset.univ : Finset (Fin 2 × Fin 16)), ∀ p' ∈ (Finset.univ : Finset (Fin 2 × Fin 16)), p ≠ p' →
    Disjoint (own W (p.2.val * 2 + p.1.val)) (own W (p'.2.val * 2 + p'.1.val)) := by
  intro p _ p' _ h
  refine own_disjoint fun e => h ?_
  have h1 := p.1.isLt; have h2 := p'.1.isLt
  exact Prod.ext (Fin.ext (by omega)) (Fin.ext (by omega))

/-- The slice a tile cuts out of an array is the rows it owns. -/
theorem unit_own {W : ℕ} {off : Fin 3 → ℕ} {w : ℕ} (h : off = ![w / 4, w % 4 * 144, 0])
    (inb : ∀ a, off a + (![1, 144, W] : Fin 3 → ℕ) a ≤ (⟨3, ![8, 576, W]⟩ : Shape).size a) :
    (Rect.unit (s := ⟨3, ![8, 576, W]⟩) off ![1, 144, W] inb).set = own W w := by
  subst h
  ext i
  rw [Rect.mem_set_unit, mem_own]
  have h1 : (i (1 : Fin 3)).val < 576 := (i (1 : Fin 3)).isLt
  have h2 : (i (2 : Fin 3)).val < W := (i (2 : Fin 3)).isLt
  constructor
  · intro hi
    have a0 : w / 4 ≤ (i (0 : Fin 3)).val ∧ (i (0 : Fin 3)).val < w / 4 + 1 := hi 0
    have a1 : w % 4 * 144 ≤ (i (1 : Fin 3)).val ∧ (i (1 : Fin 3)).val < w % 4 * 144 + 144 := hi 1
    omega
  · intro hi a
    match a with
    | ⟨0, _⟩ => show w / 4 ≤ (i (0 : Fin 3)).val ∧ (i (0 : Fin 3)).val < w / 4 + 1; omega
    | ⟨1, _⟩ => show w % 4 * 144 ≤ (i (1 : Fin 3)).val ∧ (i (1 : Fin 3)).val < w % 4 * 144 + 144; omega
    | ⟨2, _⟩ => show 0 ≤ (i (2 : Fin 3)).val ∧ (i (2 : Fin 3)).val < 0 + W; omega

/-- Where the slice's element `(r, c)` lies in the array. -/
theorem emb_own {W : ℕ} {off : Fin 3 → ℕ} {w : ℕ} (h : off = ![w / 4, w % 4 * 144, 0])
    (inb : ∀ a, off a + (![1, 144, W] : Fin 3 → ℕ) a ≤ (⟨3, ![8, 576, W]⟩ : Shape).size a)
    (hn : (⟨2, ![144, W]⟩ : Shape).numel = (⟨3, ![1, 144, W]⟩ : Shape).numel) (r : Fin 144) (c : Fin W) (hw : w < 32) :
    (Rect.unit (s := ⟨3, ![8, 576, W]⟩) off ![1, 144, W] inb).emb (Shape.reshapeEquiv hn (ix2 r c))
      = ix3 ⟨w / 4, by omega⟩ ⟨w % 4 * 144 + r.val, by omega⟩ c := by
  subst h
  rw [reshapeEquiv_ix2_1ab]
  funext a
  apply Fin.ext
  rw [Rect.emb_apply]
  match a with
  | ⟨0, _⟩ => show w / 4 + 1 * 0 = w / 4; omega
  | ⟨1, _⟩ => show w % 4 * 144 + 1 * r.val = w % 4 * 144 + r.val; omega
  | ⟨2, _⟩ => show 0 + 1 * c.val = c.val; omega

variable {F : FTy → Type} [FloatOps F]

abbrev one : F .f32 := Scalar.ofBits .f32 0x3F800000#32
abbrev zero : F .f32 := Scalar.ofBits .f32 0x00000000#32

/-- The adjacency of 144 rows. -/
def rowAdj (t : (⟨2, ![144, 16]⟩ : Shape).Idx → BitVec 32) : (⟨2, ![144, 576]⟩ : Shape).Idx → F .f32 := fun y =>
  open Classical in
  if ∃ k : Fin 7, (t (ix2 (y 0) (k.castLE (by decide)))).toNat = (y 1).val then one else zero

/-- The adjacency of all rows. -/
def adj (t : (⟨3, ![8, 576, 16]⟩ : Shape).Idx → BitVec 32) : (⟨3, ![8, 576, 576]⟩ : Shape).Idx → F .f32 := fun y =>
  open Classical in
  if ∃ k : Fin 7, (t (ix3 (y 0) (y 1) (k.castLE (by decide)))).toNat = (y 2).val then one else zero

/-! ## One row set to one value, sixteen columns at a time -/

section Row

variable {Val : EltTy → Type} {sig : RefSig} {κ : Kind} {sp : Space} {e : EltTy} {n W : ℕ}
  {v : View sig κ sp (⟨2, ![n, W]⟩ : Shape) e} {f : v.ty.Contents Val}

/-- Row `k` holds `z` in the columns below `w`, everything else is as in `f`. -/
def Filled (v : View sig κ sp (⟨2, ![n, W]⟩ : Shape) e) (f : v.ty.Contents Val) (k w : ℕ) (z : Val e) (L : List (View.Piece Val (⟨2, ![n, W]⟩ : Shape) e)) : Prop :=
  ∀ y : (⟨2, ![n, W]⟩ : Shape).Idx, v.read Val (v.writes Val f L) y
    = if (y (0 : Fin 2)).val = k ∧ (y (1 : Fin 2)).val < w then z else v.read Val f y

theorem filled_nil (k : ℕ) (z : Val e) : Filled v f k 0 z [] := fun y => by
  rw [if_neg (by omega)]; rfl

theorem filled_cons {k w w' : ℕ} {z : Val e} {L : List (View.Piece Val (⟨2, ![n, W]⟩ : Shape) e)} {off : Fin 2 → ℕ}
    {inb : ∀ a, off a + (![1, 16] : Fin 2 → ℕ) a ≤ (⟨2, ![n, W]⟩ : Shape).size a}
    {p : (Rect.unit (s := ⟨2, ![n, W]⟩) off ![1, 16] inb).shape.Idx → Val e}
    (hp : ∀ x, p x = z) (ho : off = ![k, w]) (hw : w' = w + 16) (h : Filled v f k w z L) :
    Filled v f k w' z (⟨Rect.unit (s := ⟨2, ![n, W]⟩) off ![1, 16] inb, p⟩ :: L) := fun y => by
  rw [View.read_writes_cons_unit v f inb p L y ho, h y]
  by_cases hy : (y (0 : Fin 2)).val = k ∧ w ≤ (y (1 : Fin 2)).val ∧ (y (1 : Fin 2)).val < w + 16
  · rw [dif_pos, hp, if_pos (by omega)]
    intro a
    match a with
    | ⟨0, _⟩ => show k ≤ (y (0 : Fin 2)).val ∧ (y (0 : Fin 2)).val < k + 1; omega
    | ⟨1, _⟩ => show w ≤ (y (1 : Fin 2)).val ∧ (y (1 : Fin 2)).val < w + 16; omega
  · rw [dif_neg]
    · by_cases h2 : (y (0 : Fin 2)).val = k ∧ (y (1 : Fin 2)).val < w
      · rw [if_pos h2, if_pos (by omega)]
      · rw [if_neg h2, if_neg (by omega)]
    · intro ha
      have a0 : k ≤ (y (0 : Fin 2)).val ∧ (y (0 : Fin 2)).val < k + 1 := ha 0
      have a1 : w ≤ (y (1 : Fin 2)).val ∧ (y (1 : Fin 2)).val < w + 16 := ha 1
      omega

end Row

/-! ## The scatter of one row -/

/-- A fold of masked stores of one value: a place reads that value if some set lane names it, what was there otherwise. -/
theorem foldl_store {ι α β : Type} (P : ι → Prop) [DecidablePred P] (at_ : ι → α → Prop) [∀ k j, Decidable (at_ k j)] (z : β) (j : α) :
    ∀ (l : List ι) (f : α → β),
      ((∃ k ∈ l, P k ∧ at_ k j) ∧ (l.foldl (fun g k => if P k then fun j => if at_ k j then z else g j else g) f) j = z)
      ∨ ((¬ ∃ k ∈ l, P k ∧ at_ k j) ∧ (l.foldl (fun g k => if P k then fun j => if at_ k j then z else g j else g) f) j = f j)
  | [], f => .inr ⟨by rintro ⟨_, h, _⟩; exact absurd h List.not_mem_nil, rfl⟩
  | k :: l, f => by
    rw [List.foldl_cons]
    rcases foldl_store P at_ z j l (if P k then fun j => if at_ k j then z else f j else f) with ⟨⟨k', h1, h2⟩, h⟩ | ⟨hn, h⟩
    · exact .inl ⟨⟨k', List.mem_cons_of_mem _ h1, h2⟩, h⟩
    · rw [h]
      have hn' : ¬ (P k ∧ at_ k j) → ¬ ∃ k' ∈ k :: l, P k' ∧ at_ k' j := by
        rintro hk ⟨k', h1, h2⟩
        rcases List.mem_cons.mp h1 with rfl | h1
        · exact hk h2
        · exact hn ⟨k', h1, h2⟩
      by_cases hk : P k
      · rw [if_pos hk]
        by_cases ha : at_ k j
        · exact .inl ⟨⟨k, List.mem_cons_self, hk, ha⟩, if_pos ha⟩
        · exact .inr ⟨hn' fun h => ha h.2, if_neg ha⟩
      · rw [if_neg hk]
        exact .inr ⟨hn' fun h => hk h.1, rfl⟩

/-- The scatter of ones into row `r` at the columns the first seven lanes name. -/
theorem scatter_apply (f : (⟨2, ![144, 576]⟩ : Shape).Idx → F .f32) (rv cv : IVec (⟨1, ![16]⟩ : Shape) 32) (o : Vec F (⟨1, ![16]⟩ : Shape) .f32)
    (mask : IVec (⟨1, ![16]⟩ : Shape) 1) (h : ∀ a x, ((![rv, cv] : Fin 2 → IVec (⟨1, ![16]⟩ : Shape) 32) a x).toNat < (⟨2, ![144, 576]⟩ : Shape).size a)
    (r : ℕ) (hr : ∀ x, (rv x).toNat = r) (ho : ∀ x, o x = one) (hm : ∀ k : Fin 16, mask (Shape.ofLane k) = 1 ↔ k.val < 7)
    (y : (⟨2, ![144, 576]⟩ : Shape).Idx) :
    storeIdx (s := ⟨2, ![144, 576]⟩) (F := F) (e := .f32) f ![rv, cv] o mask false h y
      = open Classical in if (y (0 : Fin 2)).val = r ∧ ∃ k : Fin 7, (cv (ix1 (k.castLE (by decide)))).toNat = (y (1 : Fin 2)).val then one else f y := by
  simp only [storeIdx, ho, Bool.false_eq_true, if_false]
  rcases foldl_store (fun k : Fin 16 => mask (Shape.ofLane k) = 1)
    (fun k j => ∀ a, (j a).val = (idxAt (s := ⟨2, ![144, 576]⟩) ![rv, cv] h (Shape.ofLane k) a).val) (one : F .f32) y (List.finRange 16) f
    with ⟨⟨k, -, hk, hj⟩, e⟩ | ⟨hn, e⟩
  · refine e.trans (if_pos ⟨(hj 0).trans (hr _), ⟨k.val, (hm k).mp hk⟩, ?_⟩).symm
    refine Eq.trans ?_ (hj 1).symm
    show _ = (cv (Shape.ofLane k)).toNat
    congr 2
    funext a
    match a with | ⟨0, _⟩ => rfl
  · refine e.trans (if_neg ?_).symm
    rintro ⟨h0, k, hk⟩
    refine hn ⟨k.castLE (by decide), List.mem_finRange _, (hm _).mpr k.isLt, fun a => ?_⟩
    match a with
    | ⟨0, _⟩ => exact h0.trans (hr _).symm
    | ⟨1, _⟩ =>
      refine hk.symm.trans ?_
      show _ = (cv (Shape.ofLane _)).toNat
      congr 2
      funext a
      match a with | ⟨0, _⟩ => rfl

end Cert.Proof.AdjPure
end
-- ==== Proof.AdjTile.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.AdjPure
public import proofs.«01_k».proof.Proof.Gen.AdjIdeal
public import proofs.«01_k».proof.Proof.Gen.AdjIdeal.Skeleton

@[expose] public section

noncomputable section

namespace Cert.Proof.AdjTile

open Cert.AdjIdeal Cert.AdjIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

abbrev UH : Type := URounds (GSem nD τ sig) ℕ
abbrev UU : Type := UH × Counters
local notation "𝕄" => MT nD τ sig (HIx 1) (Elt F) ℕ UU ℕ
local notation "iW" => (Memref.whole Cert.AdjIdeal.main_arg0_scv : Memref Cert.AdjIdeal.sig Kind.scVector Space.hbm Cert.AdjIdeal.S8x576x16 EltTy.i32)
local notation "oW" => (Memref.whole Cert.AdjIdeal.main_v0_scv : Memref Cert.AdjIdeal.sig Kind.scVector Space.hbm Cert.AdjIdeal.S8x576x576 EltTy.f32)
local notation "sI" => (Memref.whole Cert.AdjIdeal.cc0_scratch0 : Memref Cert.AdjIdeal.sig Kind.scVector Space.vmem Cert.AdjIdeal.S144x16 EltTy.i32)
local notation "sB" => (Memref.whole Cert.AdjIdeal.cc0_scratch1 : Memref Cert.AdjIdeal.sig Kind.scVector Space.vmem Cert.AdjIdeal.S144x576 EltTy.f32)

abbrev 𝒱₀ : Variants := Variants.none
variable [FloatOps F]

abbrev cV (L : grid0.Coords) : Fin τ.nSC := (L 0).castLE hcore0
abbrev jV (L : grid0.Coords) : Fin τ.nSub := (L 1).castLE hsub0

/-- The tile's number. -/
abbrev wL (L : grid0.Coords) : ℕ := (L 1).val * 2 + (L 0).val

omit [FloatOps F] in
theorem wL_lt (L : grid0.Coords) : wL L < 32 := by
  have h0 : (L 0).val < 2 := (L 0).isLt
  have h1 : (L 1).val < 16 := (L 1).isLt
  unfold wL; omega

def coordsV (c : Fin (grid0.bound 0)) (s : Fin (grid0.bound 1)) : grid0.Coords :=
  fun | 0 => c | 1 => s | ⟨_ + 2, h⟩ => absurd h (Nat.not_lt.2 (Nat.le_add_left _ _))

omit [FloatOps F] in
theorem eq_coordsV (L : grid0.Coords) : L = coordsV (L 0) (L 1) := by
  funext a
  match a with
  | 0 => rfl
  | 1 => rfl

omit [FloatOps F] in
theorem off1_eq (L : grid0.Coords) : k0_off1 L = ![wL L / 4, wL L % 4 * 144, 0] := by
  have h : ∀ (c : Fin (grid0.bound 0)) (s : Fin (grid0.bound 1)), k0_off1 (coordsV c s) = ![wL (coordsV c s) / 4, wL (coordsV c s) % 4 * 144, 0] := by
    decide +kernel
  rw [eq_coordsV L]; exact h _ _

omit [FloatOps F] in
theorem off39_eq (L : grid0.Coords) : k0_off39 L = ![wL L / 4, wL L % 4 * 144, 0] := by
  have h : ∀ (c : Fin (grid0.bound 0)) (s : Fin (grid0.bound 1)), k0_off39 (coordsV c s) = ![wL (coordsV c s) / 4, wL (coordsV c s) % 4 * 144, 0] := by
    decide +kernel
  rw [eq_coordsV L]; exact h _ _

section Body

variable (d : Dev nD) (L : grid0.Coords)

abbrev thr : Thread nD τ := V d (cV L) (jV L)

/-- After `k` rows of zeroing: those rows are zero. -/
def inv1 (k : Nat) (_ : BitVec 32) : sProp 𝕄 :=
  iprop(∃ f : Buf (Elt F) ((thr d L).loc cc0_scratch1), ⌜∀ y : S144x576.Idx, (y (0 : Fin 2)).val < k → f y = (AdjPure.zero : F .f32)⌝
    ∗ (sB).view.loc (thr d L) ↦{fullShare} f)

/-- After `k` rows of scattering: those rows are the adjacency, the rest zero. -/
def inv2 (t : Buf (Elt F) ((thr d L).loc cc0_scratch0)) (k : Nat) (_ : BitVec 32) : sProp 𝕄 :=
  iprop(((sI).view.loc (thr d L) ↦{fullShare} t) ∗ ∃ f : Buf (Elt F) ((thr d L).loc cc0_scratch1),
    ⌜∀ y : S144x576.Idx, f y = if (y (0 : Fin 2)).val < k then AdjPure.rowAdj (F := F) t y else AdjPure.zero⌝
    ∗ (sB).view.loc (thr d L) ↦{fullShare} f)

theorem zero_trip (k : Fin k0_t1_loop.trips) (x : BitVec 32) :
    (inv1 d L k.val x : sProp 𝕄)
      ⊢ wp frame (wpE (defs₀ (F := F)) 𝒱₀ (thr d L) none) Set.univ
          (k0_t1_body L iW (Memref.isWhole_whole _) oW (Memref.isWhole_whole _) sI (Memref.isWhole_whole _) sB (Memref.isWhole_whole _) cc0_scoped0 cc0_scoped1 k x)
          fun x' => inv1 d L (k.val + 1) x' := by
  unfold k0_t1_body inv1
  iintro ⟨%f, %hf, H⟩
  sl_exec
  sl_step
  iexists _
  isplitr [H]
  rotate_left
  · iexact H
  ipureintro
  intro y hy
  have key : ∀ Ls, AdjPure.Filled (sB).view f k.val 576 (AdjPure.zero : F .f32) Ls → (sB).view.writes (Elt F) f Ls y = AdjPure.zero := by
    intro Ls hc
    have h := hc y
    simp only [Memref.view_whole, View.read_whole] at h
    refine h.trans ?_
    have h1 : (y (1 : Fin 2)).val < 576 := (y (1 : Fin 2)).isLt
    by_cases h0 : (y (0 : Fin 2)).val = k.val
    · rw [if_pos ⟨h0, h1⟩]
    · rw [if_neg fun h => h0 h.1]; exact hf y (by omega)
  refine key _ ?_
  repeat (refine AdjPure.filled_cons (fun _ => rfl) ClosedOff.eq rfl ?_)
  exact AdjPure.filled_nil _ _

omit [FloatOps F] in
theorem access_sB_set : ((sB).access (.whole S144x576)).set = Finset.univ := Memref.set_access_whole _

omit [FloatOps F] in
theorem pts_sB_access (f : Buf (Elt F) ((thr d L).loc cc0_scratch1)) :
    (((sB).access (.whole S144x576)).loc (thr d L) ↦[((sB).access (.whole S144x576)).set]{fullShare} f : sProp 𝕄)
      = (sB).view.loc (thr d L) ↦{fullShare} f := by
  rw [access_sB_set]

theorem mask_iff (k : Fin 16) : k0_pay3 (Shape.ofLane k) = 1 ↔ k.val < 7 := by
  revert k; decide

theorem row_val (t : Fin k0_t2_loop.trips) (x : S16.Idx) : (k0_pay4 t x).toNat = t.val := by
  have h : ∀ t : Fin k0_t2_loop.trips, (k0_pay4 t (ix1 0)).toNat = t.val := by decide +kernel
  exact h t

theorem scatter_trip (t : Buf (Elt F) ((thr d L).loc cc0_scratch0)) (ht : ∀ y : S144x16.Idx, (t y : BitVec 32).toNat < 576)
    (k : Fin k0_t2_loop.trips) (x : BitVec 32) :
    (inv2 d L t k.val x : sProp 𝕄)
      ⊢ wp frame (wpE (defs₀ (F := F)) 𝒱₀ (thr d L) none) Set.univ
          (k0_t2_body L iW (Memref.isWhole_whole _) oW (Memref.isWhole_whole _) sI (Memref.isWhole_whole _) sB (Memref.isWhole_whole _) cc0_scoped0 cc0_scoped1 k x)
          fun x' => inv2 d L t (k.val + 1) x' := by
  unfold k0_t2_body inv2
  iintro ⟨Hi, %f, %hf, H⟩
  sl_exec
  have hv : ∀ x, scatter_trip.sl.v40 d L t k x = t (ix2 ⟨k.val, k.isLt⟩ (x 0)) := by
    intro x
    unfold scatter_trip.sl.v40
    refine (shapeCast_dropUnit_apply (n := 1) ![16] _ _ x).trans ?_
    rw [View.readAt_apply]
    simp only [Memref.view_whole, View.read_whole]
    congr 1
    funext a
    apply Fin.ext
    rw [LoadRect.idx_apply]
    match a with
    | ⟨0, _⟩ => exact congrArg (· + 1 * 0) (congrFun (k0_off38_eq k) 0)
    | ⟨1, _⟩ =>
      refine (congrArg (· + 1 * (x 0).val) (congrFun (k0_off38_eq k) 1)).trans ?_
      show 0 + 1 * (x 0).val = (x 0).val
      omega
  have hchk : k0_chk1 (scatter_trip.sl.v40 d L t k) (k0_pay4 k) := by
    intro a x
    match a with
    | ⟨0, _⟩ => exact (row_val k x).trans_lt k.isLt
    | ⟨1, _⟩ => exact (congrArg BitVec.toNat (hv x)).trans_lt (ht _)
  rw [wp_assume_of _ _ _ _ hchk]
  ihave H' := (Entails.of_eq (pts_sB_access (F := F) d L _).symm) $$ H
  iapply (SparseCore.wp_vectorStoreIdx 𝒱₀ (thr d L) none Set.univ (base := sB)) $$ H'
  iintro H
  ihave H' := (Entails.of_eq (pts_sB_access (F := F) d L _)) $$ H
  sl_step
  isplitl [Hi]; · iexact Hi
  iexists _
  isplitr [H']
  rotate_left
  · iexact H'
  ipureintro
  intro y
  refine (congrFun (Memref.write_access_whole_univ (Elt F) cc0_scratch1 f _) y).trans ?_
  rw [Memref.read_access_whole]
  refine (AdjPure.scatter_apply (F := F) f (k0_pay4 k) (scatter_trip.sl.v40 d L t k) k0_pay2 k0_pay3 hchk k.val (row_val k) (fun _ => rfl) mask_iff y).trans ?_
  rw [hf y]
  unfold AdjPure.rowAdj
  by_cases h0 : (y (0 : Fin 2)).val = k.val
  · have hy : (⟨k.val, k.isLt⟩ : Fin 144) = y (0 : Fin 2) := Fin.ext h0.symm
    rw [if_pos (show (y (0 : Fin 2)).val < k.val + 1 by omega), if_neg (show ¬ (y (0 : Fin 2)).val < k.val by omega)]
    simp only [hv, h0, true_and]
    rw [hy]
  · rw [if_neg fun h => h0 h.1]
    by_cases h1 : (y (0 : Fin 2)).val < k.val
    · exact (if_pos h1).trans (if_pos (show (y (0 : Fin 2)).val < k.val + 1 by omega)).symm
    · exact (if_neg h1).trans (if_neg (show ¬ (y (0 : Fin 2)).val < k.val + 1 by omega)).symm

/-! ## The whole task -/

local notation "iR" => Memref.squeeze (Memref.slice iW (Rect.unit (s := S8x576x16) (k0_off1 L) S1x144x16.size (k0_off1_inb L)) (fun _ => rfl)) S144x16 squeezes_S1x144x16_S144x16
local notation "oR" => Memref.squeeze (Memref.slice oW (Rect.unit (s := S8x576x576) (k0_off39 L) S1x144x576.size (k0_off39_inb L)) (fun _ => rfl)) S144x576 squeezes_S1x144x576_S144x576

abbrev iLoc (d : Dev nD) : Loc nD τ sig := (SparseCore.T d).loc main_arg0
abbrev oLoc (d : Dev nD) : Loc nD τ sig := (SparseCore.T d).loc main_v0

omit [FloatOps F] in
theorem set_iR : (iR).view.set = AdjPure.own 16 (wL L) := by
  show ((View.slice (iW).view (Rect.unit (s := S8x576x16) (k0_off1 L) S1x144x16.size (k0_off1_inb L))).reshape S144x16 squeezes_S1x144x16_S144x16.numel_eq).set = _
  exact (View.set_reshape _ _).trans ((View.set_slice_whole _ _).trans (AdjPure.unit_own (off1_eq L) _))

omit [FloatOps F] in
theorem set_oR : (oR).view.set = AdjPure.own 576 (wL L) := by
  show ((View.slice (oW).view (Rect.unit (s := S8x576x576) (k0_off39 L) S1x144x576.size (k0_off39_inb L))).reshape S144x576 squeezes_S1x144x576_S144x576.numel_eq).set = _
  exact (View.set_reshape _ _).trans ((View.set_slice_whole _ _).trans (AdjPure.unit_own (off39_eq L) _))

omit [FloatOps F] in
theorem emb_iR (r : Fin 144) (c : Fin 16) : (iR).view.emb (ix2 r c) = ix3 ⟨wL L / 4, by have := wL_lt L; omega⟩ ⟨wL L % 4 * 144 + r.val, by omega⟩ c :=
  AdjPure.emb_own (off1_eq L) (k0_off1_inb L) squeezes_S1x144x16_S144x16.numel_eq r c (wL_lt L)

omit [FloatOps F] in
theorem emb_oR (r : Fin 144) (c : Fin 576) : (oR).view.emb (ix2 r c) = ix3 ⟨wL L / 4, by have := wL_lt L; omega⟩ ⟨wL L % 4 * 144 + r.val, by omega⟩ c :=
  AdjPure.emb_own (off39_eq L) (k0_off39_inb L) squeezes_S1x144x576_S144x576.numel_eq r c (wL_lt L)

omit [FloatOps F] in
theorem pts_iR (t : Buf (Elt F) (iLoc d)) :
    ((iR).view.loc (thr d L) ↦[(iR).view.set]{fullShare} t : sProp 𝕄) = iLoc d ↦[AdjPure.own 16 (wL L)]{fullShare} t := by
  rw [set_iR]
omit [FloatOps F] in
theorem pts_oR (f : Buf (Elt F) (oLoc d)) :
    ((oR).view.loc (thr d L) ↦[(oR).view.set]{fullShare} f : sProp 𝕄) = oLoc d ↦[AdjPure.own 576 (wL L)]{fullShare} f := by
  rw [set_oR]

/-- The fetched rows are the tile's rows of the index array. -/
theorem local_val (t : Buf (Elt F) (iLoc d)) (r : Fin 144) (c : Fin 16) :
    (iR).view.read (Elt F) t (ix2 r c) = t (ix3 ⟨wL L / 4, by have := wL_lt L; omega⟩ ⟨wL L % 4 * 144 + r.val, by omega⟩ c) :=
  ((View.read_apply (v := (iR).view) t (ix2 r c)).trans (cast_eq _ _)).trans (congrArg t (emb_iR L r c))

/-- The rows written out are the tile's rows of the adjacency. -/
theorem out_val (t : Buf (Elt F) (iLoc d)) (g : Buf (Elt F) (oLoc d)) (f : S144x576.Idx → F .f32)
    (hf : ∀ y, f y = AdjPure.rowAdj (F := F) ((iR).view.read (Elt F) t) y) :
    ∀ x ∈ (oR).view.set, View.write (Elt F) (oR).view g f Finset.univ x = AdjPure.adj (F := F) t x := by
  intro x hx
  obtain ⟨y, -, rfl⟩ := Finset.mem_map.mp hx
  refine (View.write_emb_of_mem (v := (oR).view) g f (Finset.mem_univ y)).trans ((cast_eq _ _).trans ?_)
  rw [hf y]
  have hy : y = ix2 (y (0 : Fin 2)) (y (1 : Fin 2)) := by
    funext a; match a with | 0 => rfl | 1 => rfl
  rw [hy]
  refine Eq.trans ?_ (congrArg (AdjPure.adj (F := F) t) (emb_oR L _ _)).symm
  refine if_congr (exists_congr fun k => ?_) rfl rfl
  exact (congrArg (fun z => BitVec.toNat (w := 32) z = (y (1 : Fin 2)).val) (local_val d L t (y (0 : Fin 2)) (k.castLE (by decide)))).to_iff

set_option maxHeartbeats 1000000 in
theorem body_run (O : CellTallies nD τ sig (HIx 1)) (W : Waits sig (HIx 1)) (t : Buf (Elt F) (iLoc d)) (g : Buf (Elt F) (oLoc d))
    (ht : ∀ y : S8x576x16.Idx, BitVec.toNat (w := 32) (t y) < 576)
    (f0 : Buf (Elt F) ((thr d L).loc cc0_scratch0)) (f1 : Buf (Elt F) ((thr d L).loc cc0_scratch1)) :
    (iprop(Transfers.MayWaits (thr d L) (none : HIx 1) O
        ∗ ((iR).view.loc (thr d L) ↦[(iR).view.set]{fullShare} t) ∗ ((oR).view.loc (thr d L) ↦[(oR).view.set]{fullShare} g)
        ∗ ((sI).view.loc (thr d L) ↦{fullShare} f0) ∗ ((sB).view.loc (thr d L) ↦{fullShare} f1)
        ∗ semVal (thr d L, SemLoc.dma cc0_scoped0.sem) 0 ∗ semVal (thr d L, SemLoc.dma cc0_scoped1.sem) 0
        ∗ owes (thr d L) O W) : sProp 𝕄)
      ⊢ wp frame (wpE (defs₀ (F := F)) 𝒱₀ (thr d L) none) Set.univ
          (cc0__sc_adj L iW (Memref.isWhole_whole _) oW (Memref.isWhole_whole _) sI (Memref.isWhole_whole _) sB (Memref.isWhole_whole _) cc0_scoped0 cc0_scoped1)
          fun _ => iprop(((iR).view.loc (thr d L) ↦[(iR).view.set]{fullShare} t) ∗ ((oR).view.loc (thr d L) ↦[(oR).view.set]{fullShare} AdjPure.adj (F := F) t)
            ∗ (∃ f, (sI).view.loc (thr d L) ↦{fullShare} f) ∗ (∃ f, (sB).view.loc (thr d L) ↦{fullShare} f)
            ∗ semVal (thr d L, SemLoc.dma cc0_scoped0.sem) 0 ∗ semVal (thr d L, SemLoc.dma cc0_scoped1.sem) 0
            ∗ ∃ W', ⌜∀ p ∈ W', p ∈ W ∨ p.2 = none⌝ ∗ owes (thr d L) O W') := by
  rw [cc0__sc_adj_eq_skeleton]; unfold cc0__sc_adj_skel
  iintro ⟨Hmw, Hi, Ho, HsI, HsB, Hs0, Hs1, HO⟩
  sl_exec
  sl_for (inv1 d L) $$ [HsB]
  case region =>
    intro k x
    exact zero_trip d L k x
  · unfold inv1
    iexists _
    isplitr
    rotate_left
    · iexact HsB
    ipureintro
    intro y hy
    exact absurd hy (Nat.not_lt_zero _)
  iintro %x1 HI
  unfold inv1
  icases HI with ⟨%f, %hf, HsB⟩
  have hw : View.write (Elt F) (sI).view f0 (body_run.sl.dma0 d L t) Finset.univ = (iR).view.read (Elt F) t := View.write_whole_univ _ _ _
  rw [hw]
  sl_for (inv2 d L ((iR).view.read (Elt F) t)) $$ [HsI HsB]
  case region =>
    intro k x
    refine scatter_trip d L _ (fun y => ?_) k x
    have hy : y = ix2 (y (0 : Fin 2)) (y (1 : Fin 2)) := by
      funext a; match a with | 0 => rfl | 1 => rfl
    rw [hy]
    exact (congrArg (BitVec.toNat (w := 32)) (local_val d L t _ _)).trans_lt (ht _)
  · unfold inv2
    isplitl [HsI]; · iexact HsI
    iexists _
    isplitr
    rotate_left
    · iexact HsB
    ipureintro
    intro y
    exact (hf y (y (0 : Fin 2)).isLt).trans (if_neg (Nat.not_lt_zero _)).symm
  iintro %x2 HI
  unfold inv2
  icases HI with ⟨HsI, %f2, %hf2, HsB⟩
  sl_exec
  sl_step
  have hfin : ∀ y : S144x576.Idx, f2 y = AdjPure.rowAdj (F := F) ((iR).view.read (Elt F) t) y :=
    fun y => (hf2 y).trans (if_pos (y (0 : Fin 2)).isLt)
  have hdma : body_run.sl.dma0_1 d L f2 = f2 := rfl
  have hout : ∀ x ∈ (oR).view.set, (oR).view.writes (Elt F) g [⟨Rect.whole S144x576, f2⟩] x = AdjPure.adj (F := F) t x :=
    fun x hx => (congrFun (View.write_univ_eq_writes_whole (oR).view g [] f2).symm x).trans (out_val d L t g f2 hfin x hx)
  ihave Ho' := (Entails.of_eq (pointsTo_congr hout)) $$ Ho
  isplitl [Hi]; · iexact Hi
  isplitl [Ho']; · iexact Ho'
  isplitl [HsI]; · iexists _; iexact HsI
  isplitl [HsB]; · iexists _; iexact HsB
  isplitl [Hs0]; · iexact Hs0
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Body

end Cert.Proof.AdjTile
end
-- ==== Proof.AdjRun.lean ====
/-
  The adjacency call's run: the launch of the vector-subcore kernel over two SparseCores of sixteen tiles. Each tile is
  dealt its own rows of the index array and of the result (`AdjPure.own`), runs `AdjTile.body_run`, and hands them back,
  the result's rows at the adjacency. From every launch memory whose index words are below 576, at any semantics of floats:
  the index array is unchanged, the result is the adjacency of the index array, every semaphore counter is at zero.
-/
module

public import proofs.«01_k».proof.Defs
public import proofs.«01_k».proof.Proof.AdjTile

@[expose] public section

noncomputable section

namespace Cert.Proof.AdjRun

open Cert.AdjIdeal Cert.AdjIdeal.Gen
open Cert.Proof.AdjTile (UH UU 𝒱₀ cV jV wL coordsV thr iLoc oLoc)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iW" => (Memref.whole Cert.AdjIdeal.main_arg0_scv : Memref Cert.AdjIdeal.sig Kind.scVector Space.hbm Cert.AdjIdeal.S8x576x16 EltTy.i32)
local notation "oW" => (Memref.whole Cert.AdjIdeal.main_v0_scv : Memref Cert.AdjIdeal.sig Kind.scVector Space.hbm Cert.AdjIdeal.S8x576x576 EltTy.f32)
local notation "sI" => (Memref.whole Cert.AdjIdeal.cc0_scratch0 : Memref Cert.AdjIdeal.sig Kind.scVector Space.vmem Cert.AdjIdeal.S144x16 EltTy.i32)
local notation "sB" => (Memref.whole Cert.AdjIdeal.cc0_scratch1 : Memref Cert.AdjIdeal.sig Kind.scVector Space.vmem Cert.AdjIdeal.S144x576 EltTy.f32)

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 1) (Elt F) ℕ UU ℕ) := embL

variable (m : (ℓ : Loc nD τ sig) → Buf (Elt F) ℓ) (ρ : Dev nD → PrngReg)

/-- What is asked of the launch memory: every word of the index array names a column. -/
def PreOK : Prop := ∀ (d : Dev nD) (y : S8x576x16.Idx), BitVec.toNat (w := 32) (m (iLoc d) y) < 576

variable [FloatOps F]

/-! ## What the tiles are dealt -/

/-- Tile `w`'s rows of the index array, at their launch contents, and of the result, at `g`. -/
def tilePts (d : Dev nD) (w : ℕ) (g : Buf (Elt F) (oLoc d)) : sProp 𝕄 :=
  iprop((iLoc d ↦[AdjPure.own 16 w]{fullShare} m (iLoc d)) ∗ oLoc d ↦[AdjPure.own 576 w]{fullShare} g)

/-- The rows of the tiles of SparseCore `c`. -/
def corePts (d : Dev nD) (c : ℕ) (g : Buf (Elt F) (oLoc d)) : sProp 𝕄 :=
  bigSep Finset.univ fun i : Fin 16 => tilePts m d (i.val * 2 + c) g

/-- The result: the adjacency of the index array. -/
abbrev res (d : Dev nD) : Buf (Elt F) (oLoc d) := AdjPure.adj (F := F) (m (iLoc d))

instance tilePts_storable (d : Dev nD) (w : ℕ) (g : Buf (Elt F) (oLoc d)) : BI.Storable (upEmb : UEmb _ 𝕄) (tilePts m d w g) := by
  unfold tilePts; infer_instance
instance corePts_storable (d : Dev nD) (w : ℕ) (g : Buf (Elt F) (oLoc d)) : BI.Storable (upEmb : UEmb _ 𝕄) (corePts m d w g) := by
  unfold corePts; infer_instance

def P : (K (F := F)).Pay (nD := nD) (Val := Elt F) (Name := ℕ) (U := UU) where
  st := fun _ d c => corePts m d c.val (m (oLoc d))
  dn := fun _ d c => corePts m d c.val (res m d)
  go := fun _ d c i => tilePts m d (i.val * 2 + c.val) (m (oLoc d))
  td := fun _ d c i => tilePts m d (i.val * 2 + c.val) (res m d)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

omit [FloatOps F] in
theorem iPts_tiles (d : Dev nD) (f : Buf (Elt F) (iLoc d)) :
    (iLoc d ↦{fullShare} f : sProp 𝕄)
      = bigSep Finset.univ fun c : Fin 2 => bigSep Finset.univ fun i : Fin 16 => iLoc d ↦[AdjPure.own 16 (i.val * 2 + c.val)]{fullShare} f := by
  rw [← SparseCore.bigSep_product Finset.univ Finset.univ (fun p : Fin 2 × Fin 16 => (iLoc d ↦[AdjPure.own 16 (p.2.val * 2 + p.1.val)]{fullShare} f : sProp 𝕄)),
    Finset.univ_product_univ,
    ← pointsTo_biUnion Finset.univ (ℓ := iLoc d) (fun p : Fin 2 × Fin 16 => AdjPure.own 16 (p.2.val * 2 + p.1.val)) (AdjPure.own_pairwise 16), AdjPure.own_cover]
  try rfl
omit [FloatOps F] in
theorem oPts_tiles (d : Dev nD) (f : Buf (Elt F) (oLoc d)) :
    (oLoc d ↦{fullShare} f : sProp 𝕄)
      = bigSep Finset.univ fun c : Fin 2 => bigSep Finset.univ fun i : Fin 16 => oLoc d ↦[AdjPure.own 576 (i.val * 2 + c.val)]{fullShare} f := by
  rw [← SparseCore.bigSep_product Finset.univ Finset.univ (fun p : Fin 2 × Fin 16 => (oLoc d ↦[AdjPure.own 576 (p.2.val * 2 + p.1.val)]{fullShare} f : sProp 𝕄)),
    Finset.univ_product_univ,
    ← pointsTo_biUnion Finset.univ (ℓ := oLoc d) (fun p : Fin 2 × Fin 16 => AdjPure.own 576 (p.2.val * 2 + p.1.val)) (AdjPure.own_pairwise 576), AdjPure.own_cover]
  try rfl

/-- All the tiles' rows are the two arrays whole. -/
theorem cores_eq (d : Dev nD) (g : Buf (Elt F) (oLoc d)) :
    (bigSep Finset.univ fun c : Fin 2 => corePts m d c.val g) = iprop((iLoc d ↦{fullShare} m (iLoc d)) ∗ oLoc d ↦{fullShare} g) := by
  unfold corePts tilePts
  rw [iPts_tiles, oPts_tiles, ← bigSep_sep']
  exact bigSep_congr fun c _ => bigSep_sep' _ _ _

/-! ## A tile's task -/

section Tile

variable (d : Dev nD) (L : grid0.Coords)

abbrev cell0 (c : Fin τ.nSC) (i : Fin τ.nSub) : GSem nD τ sig := (V d c i, .dma cc0_scoped0.sem)
abbrev cell1 (c : Fin τ.nSC) (i : Fin τ.nSub) : GSem nD τ sig := (V d c i, .dma cc0_scoped1.sem)

omit [FloatOps F] in
theorem ownSems0_V :
    (ownSems0 (V d (cV L) (jV L)) : sProp 𝕄)
      = iprop(semVal (cell0 d (cV L) (jV L)) 0 ∗ semVal (cell1 d (cV L) (jV L)) 0
          ∗ bigSep (((ownCells (V d (cV L) (jV L))).erase (cell0 d (cV L) (jV L))).erase (cell1 d (cV L) (jV L))) fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- A tile's task, from what the launch deals it. -/
theorem tile_body (hpre : PreOK m) (O : CellTallies nD τ sig (HIx 1)) (W : Waits sig (HIx 1)) (hO : ∀ g, O g none = 0) :
    (iprop(levAts (K (F := F)).L (K (F := F)).lev ∗ emp ∗ tilePts m d (wL L) (m (oLoc d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_adj L iW (Memref.isWhole_whole _) oW (Memref.isWhole_whole _) sI (Memref.isWhole_whole _) sB (Memref.isWhole_whole _) cc0_scoped0 cc0_scoped1)
          fun _ => iprop(tilePts m d (wL L) (res m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  unfold tilePts
  rw [← AdjTile.pts_iR, ← AdjTile.pts_oR, ← AdjTile.pts_oR]
  iintro ⟨#Hlv, -, ⟨Hi, Ho⟩, ⟨⟨%f0, HsI⟩, ⟨%f1, HsB⟩, Hbufs⟩, ⟨Hs0, Hs1, Hsems⟩, HO⟩
  ihave Hmw := ((K (F := F)).mayWaits_none (thr := V d (cV L) (jV L)) hO) $$ Hlv
  iapply (wp_wand_r Idealize.ShloMosaic.frame (wpE (defs₀ (F := F)) 𝒱₀ (V d (cV L) (jV L)) none) Set.univ)
  isplitl [Hmw Hi Ho HsI HsB Hs0 Hs1 HO]
  · iapply (AdjTile.body_run d L O W (m (iLoc d)) (m (oLoc d)) (hpre d) f0 f1)
    isplitl [Hmw]; · iexact Hmw
    isplitl [Hi]; · iexact Hi
    isplitl [Ho]; · iexact Ho
    isplitl [HsI]; · iexact HsI
    isplitl [HsB]; · iexact HsB
    isplitl [Hs0]; · iexact Hs0
    isplitl [Hs1]; · iexact Hs1
    iexact HO
  iintro %_ ⟨Hi, Ho, HsI, HsB, Hs0, Hs1, HO⟩
  isplitl [Hi Ho]
  · isplitl [Hi]; · iexact Hi
    iexact Ho
  isplitl [HsI HsB Hbufs]
  · isplitl [HsI]; · iexact HsI
    isplitl [HsB]; · iexact HsB
    iexact Hbufs
  isplitl [Hs0 Hs1 Hsems]
  · isplitl [Hs0]; · iexact Hs0
    isplitl [Hs1]; · iexact Hs1
    iexact Hsems
  iexact HO

end Tile

/-! ## The launch theorem's obligations -/

theorem defs₀_vector (c : Fin τ.nSC) (s : Fin τ.nSub) :
    defs₀ (F := F) (.scVector c s) 0 ()
      = SparseCore.onTile hcore0 hsub0 (fun c s => cc0__sc_adj (coordsV c s)
          iW (Memref.isWhole_whole _) oW (Memref.isWhole_whole _) sI (Memref.isWhole_whole _) sB (Memref.isWhole_whole _) cc0_scoped0 cc0_scoped1) ⟨⟩ c s := rfl

omit [FloatOps F] in
/-- The waits a tile records are the transfers' own: none of the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hpre O W hO).trans (wp_mono frame _ _ fun _ => obl_post)

theorem vecSplit : (K (F := F)).VecSplit' (P m) 0 := by
  intro d c
  show (corePts m d c.val (m (oLoc d)) : sProp 𝕄) ⊢ |={Set.univ}=> iprop(
      corePts m d c.val (m (oLoc d)) ∗ (corePts m d c.val (res m d) -∗ corePts m d c.val (res m d)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

abbrev FIN (d : Dev nD) : sProp 𝕄 := iprop((iLoc d ↦{fullShare} m (iLoc d)) ∗ oLoc d ↦{fullShare} res m d)

/-- What the call takes and hands back: the two arrays whole. -/
theorem st0_eq (d : Dev nD) : (bigSep Finset.univ fun c : Fin ((K (F := F)).nCore 0) => (P m).st 0 d c)
    = iprop((iLoc d ↦{fullShare} m (iLoc d)) ∗ oLoc d ↦{fullShare} m (oLoc d)) := cores_eq m d _
theorem dn0_eq (d : Dev nD) : (bigSep Finset.univ fun c : Fin ((K (F := F)).nCore 0) => (P m).dn 0 d c) = FIN m d := cores_eq m d _

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ho⟩, Hts, -⟩, -⟩
  iapply ((K (F := F)).wp_run (D (F := F)) 𝒱 (EH := EH) (P := P m) κ d 0) $$ [Hst Hi Ho Hb Hts]
  isplitr; · iexact Hctx
  isplitl [Hst]; · iexact Hst
  isplitl [Hi Ho]
  · rw [st0_eq]
    isplitl [Hi]; · iexact Hi
    iexact Ho
  iintro ⟨Hst, Hdn⟩
  ihave Hdn' := (Entails.of_eq (dn0_eq m d)) $$ Hdn
  imodintro
  isplitl [Hst]; · iexact Hst
  isplitr [Hb Hts]; · iexact Hdn'
  isplitl [Hb] <;> iassumption

def fq (d : Dev nD) (s' : Phys nD τ sig (Elt F)) : Prop := s'.mem.mem (iLoc d) = m (iLoc d) ∧ s'.mem.mem (oLoc d) = res m d

theorem hfin (d : Dev nD) (s' : Phys nD τ sig (Elt F)) : iprop(FIN m d ∗ SI s') ⊢ (⌜fq m d s'⌝ : sProp 𝕄) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := res m d)) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (iLoc c) = m (iLoc c) ∧ r.2.mem (oLoc c) = res m c) ∧ r.2.sem = fun _ => 0

theorem run_main [∀ e, Nonempty (Elt F e)] (hpre : PreOK m) :
    θ_run (Cert.AdjIdeal.defs (F := F)) (Cert.AdjIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.AdjRun

end
-- ==== Proof.AdjValue.lean ====
/-
  The adjacency call's reference, read at an element: one where one of the row's first seven words names the column.
-/
module

public import proofs.«01_k».proof.Defs
public import proofs.«01_k».proof.Proof.AdjPure
public import proofs.«01_k».proof.Proof.Gen.AdjRefIdeal.Run
public import Idealize.ShloMosaic.Lib.Pointwise
public import Idealize.ShloMosaic.Lib.ReduceAll
public import Idealize.ShloMosaic.Lib.Affine
public import Idealize.ShloMosaic.Lib.Routing.OpsOrder

@[expose] public section

noncomputable section

namespace Cert.Proof.AdjValue

open Idealize.ShloMosaic
open Idealize.ShloMosaic.ValueIdx (ix1 ix2 ix3)
open Cert.AdjRefIdeal Cert.AdjRefIdeal.Gen

set_option maxRecDepth 16384 in
theorem ref_eq (t : S8x576x16.Idx → BitVec 32) :
    uitofp (F := Ideal) .f32 (Host.reduce IntOp.ori (cmpi .eq (broadcastInDim S8x576x7x576 ![0, 1, 2, 3] bcast_S8x576x7x1_S8x576x7x576_0_1_2_3 (broadcastInDim S8x576x7x1 ![0, 1, 2] bcast_S8x576x7_S8x576x7x1_0_1_2 (extractStridedSlice S8x576x7 ![0, 0, 0] t slices_S8x576x16_S8x576x7_0_0_0))) (broadcastInDim S8x576x7x576 ![0, 1, 2, 3] bcast_S1x1x1x576_S8x576x7x576_0_1_2_3 (broadcastInDim S1x1x1x576 ![3] bcast_S576_S1x1x1x576_3 (iotaInDim S576 32 0)))) (constantI S_ 1 0#1) reducesTo_S8x576x7x576_S8x576x576_d2 h_S_)
      = AdjPure.adj (F := Ideal) t := by
  funext j
  pointwise
  generalize hb : Finset.fold IntOp.ori (0#1) _ (Finset.univ : Finset (Fin 7)) = b
  have key : b = 1#1 ↔ ∃ k : Fin 7, (t (ValueIdx.ix3 (j 0) (j 1) (k.castLE (by decide)))).toNat = (j 2).val := by
    rw [← hb, Routing.fold_ori]
    refine ⟨fun ⟨k, _, h⟩ => ⟨k, ?_⟩, fun ⟨k, h⟩ => ⟨k, Finset.mem_univ k, ?_⟩⟩
    · have e := IntOp.cmpi_eq.1 h
      have e' := congrArg BitVec.toNat e
      refine e'.trans ?_
      rw [BitVec.toNat_ofNat]
      exact Nat.mod_eq_of_lt (lt_trans (j 2).isLt (by decide))
    · refine IntOp.cmpi_eq.2 (BitVec.eq_of_toNat_eq ?_)
      refine Eq.trans h ?_
      rw [BitVec.toNat_ofNat]
      exact (Nat.mod_eq_of_lt (lt_trans (j 2).isLt (by decide))).symm
  unfold AdjPure.adj
  rcases BitVec.eq_zero_or_eq_one b with rfl | rfl
  · rw [if_neg fun h => absurd (key.2 h) (by decide)]
    refine Eq.trans ?_ Ideal.ofBits_zero_f32.symm
    show ((((0#1 : BitVec 1).toNat : ℝ)) : EReal) = 0
    norm_num
  · rw [if_pos (key.1 rfl)]
    refine Eq.trans ?_ Ideal.ofBits_one_f32.symm
    show ((((1#1 : BitVec 1).toNat : ℝ)) : EReal) = 1
    norm_num

/-- The precondition, decoded: every word names a column. -/
theorem in_range_dec {F : FTy → Type} [FloatOps F] [Cert.Pre_in_range.Facts] (t : S8x576x16.Idx → BitVec 32)
    (h : Cert.Pre_in_range.fn (F := F) t = fun _ => 1#1) (y : S8x576x16.Idx) : (t y).toNat < 576 := by
  have e := congrFun h ValueIdx.ix0
  dsimp only [Cert.Pre_in_range.fn] at e
  have : Subsingleton Cert.Pre_in_range.S_.Idx := ⟨fun a b => funext fun d => d.elim0⟩
  obtain ⟨h1, h2⟩ := IntOp.andi_eq_one.1 (Host.reduce_andi_all _ _ _ _ _ e y)
  have g1 : (0 : ℤ) ≤ (t y).toInt := IntOp.cmpi_sge.1 h1
  have g2 : (t y).toInt < 576 := IntOp.cmpi_slt.1 h2
  rw [BitVec.toInt_eq_toNat_cond] at g1 g2
  omega

end Cert.Proof.AdjValue

end
-- ==== Proof.WBase.lean ====
/-
  What the modules about the whole kernel share: the resources of its proof, the tiles' names and numbers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.WholeIdeal
public import proofs.«01_k».proof.Proof.Gen.WholeIdeal.Skeleton

@[expose] public section

noncomputable section

namespace Cert.Proof.W

open Cert.WholeIdeal Cert.WholeIdeal.Gen
open Idealize.ShloMosaic
open Idealize.ShloMosaic.SparseCore (S V T)
open Idealize.ShloMosaic.Rounds

abbrev UH : Type := URounds (GSem nD τ sig) ℕ
abbrev UU : Type := UH × (URounds (GSem nD τ sig) Unit × Counters)

abbrev 𝒱₀ : Variants := Variants.none

abbrev cV (L : grid0.Coords) : Fin τ.nSC := (L 0).castLE hcore0
abbrev jV (L : grid0.Coords) : Fin τ.nSub := (L 1).castLE hsub0

/-- The tile's number. -/
abbrev wL (L : grid0.Coords) : ℕ := (L 1).val * 2 + (L 0).val

theorem wL_lt (L : grid0.Coords) : wL L < 32 := by
  have h0 : (L 0).val < 2 := (L 0).isLt
  have h1 : (L 1).val < 16 := (L 1).isLt
  unfold wL; omega

def coordsV (c : Fin (grid0.bound 0)) (s : Fin (grid0.bound 1)) : grid0.Coords :=
  fun | 0 => c | 1 => s | ⟨_ + 2, h⟩ => absurd h (Nat.not_lt.2 (Nat.le_add_left _ _))

theorem eq_coordsV (L : grid0.Coords) : L = coordsV (L 0) (L 1) := by
  funext a
  match a with
  | 0 => rfl
  | 1 => rfl

abbrev cV2 (L : grid2.Coords) : Fin τ.nSC := (L 0).castLE hcore2
abbrev jV2 (L : grid2.Coords) : Fin τ.nSub := (L 1).castLE hsub2
abbrev wL2 (L : grid2.Coords) : ℕ := (L 1).val * 2 + (L 0).val

theorem wL2_lt (L : grid2.Coords) : wL2 L < 32 := by
  have h0 : (L 0).val < 2 := (L 0).isLt
  have h1 : (L 1).val < 16 := (L 1).isLt
  unfold wL2; omega

def coordsV2 (c : Fin (grid2.bound 0)) (s : Fin (grid2.bound 1)) : grid2.Coords :=
  fun | 0 => c | 1 => s | ⟨_ + 2, h⟩ => absurd h (Nat.not_lt.2 (Nat.le_add_left _ _))

theorem eq_coordsV2 (L : grid2.Coords) : L = coordsV2 (L 0) (L 1) := by
  funext a
  match a with
  | 0 => rfl
  | 1 => rfl

end Cert.Proof.W
end
-- ==== Proof.PatchPure.lean ====
module

public import Idealize.ShloMosaic.Lib.Writes
public import Idealize.ShloMosaic.Lib.WritesUnit
public import Idealize.ShloMosaic.Lib.ValueIdxCore
public import Idealize.ShloMosaic.Lib.ValueLayout

@[expose] public section

noncomputable section

/-! # The patch matrix of three rows of patches

A slab is three channels of 48 image rows. Its patch matrix has a row per patch (three rows of 24 patches) and in row `n`,
column `(channel, row of the patch, column of the patch)`, the pixel the patch has there. -/

namespace Cert.Proof.PatchPure

open Idealize.ShloMosaic Idealize.ShloMosaic.ValueIdx

/-- The pixel of a slab that stands at `y` in its patch matrix. -/
def px (y : (⟨2, ![72, 768]⟩ : Shape).Idx) : (⟨2, ![144, 384]⟩ : Shape).Idx :=
  ix2 ⟨(y (1 : Fin 2)).val / 256 * 48 + (y (0 : Fin 2)).val / 24 * 16 + (y (1 : Fin 2)).val % 256 / 16,
      by have h0 : (y (0 : Fin 2)).val < 72 := (y (0 : Fin 2)).isLt
         have h1 : (y (1 : Fin 2)).val < 768 := (y (1 : Fin 2)).isLt
         omega⟩
    ⟨(y (0 : Fin 2)).val % 24 * 16 + (y (1 : Fin 2)).val % 16, by omega⟩

section Row

variable {Val : EltTy → Type} {sig : RefSig} {κ : Kind} {sp : Space} {e : EltTy}
  {v : View sig κ sp (⟨2, ![72, 768]⟩ : Shape) e} {f : v.ty.Contents Val} {g : (⟨2, ![72, 768]⟩ : Shape).Idx → Val e}

/-- The first `w` patches of row of patches `ii` hold `g` in the sixteen columns `q`; everything else is as in `f`. -/
def Patched (v : View sig κ sp (⟨2, ![72, 768]⟩ : Shape) e) (f : v.ty.Contents Val) (g : (⟨2, ![72, 768]⟩ : Shape).Idx → Val e)
    (ii w q : ℕ) (L : List (View.Piece Val (⟨2, ![72, 768]⟩ : Shape) e)) : Prop :=
  ∀ y : (⟨2, ![72, 768]⟩ : Shape).Idx, v.read Val (v.writes Val f L) y
    = if (y (0 : Fin 2)).val / 24 = ii ∧ (y (0 : Fin 2)).val % 24 < w ∧ (y (1 : Fin 2)).val / 16 = q then g y else v.read Val f y

theorem patched_nil (ii q : ℕ) : Patched v f g ii 0 q [] := fun y => by
  rw [if_neg (by omega)]; rfl

theorem patched_cons {ii w w' q : ℕ} {L : List (View.Piece Val (⟨2, ![72, 768]⟩ : Shape) e)} {off : Fin 2 → ℕ}
    {inb : ∀ a, off a + (![1, 16] : Fin 2 → ℕ) a ≤ (⟨2, ![72, 768]⟩ : Shape).size a}
    {p : (Rect.unit (s := ⟨2, ![72, 768]⟩) off ![1, 16] inb).shape.Idx → Val e}
    (ho : off = ![ii * 24 + w, q * 16]) (hw : w' = w + 1)
    (hp : w < 24 → ∀ x y, (y (0 : Fin 2)).val = ii * 24 + w → (y (1 : Fin 2)).val = q * 16 + (x (1 : Fin 2)).val → p x = g y)
    (hw24 : w < 24) (h : Patched v f g ii w q L) :
    Patched v f g ii w' q (⟨Rect.unit (s := ⟨2, ![72, 768]⟩) off ![1, 16] inb, p⟩ :: L) := fun y => by
  rw [View.read_writes_cons_unit v f inb p L y ho, h y]
  by_cases hy : (y (0 : Fin 2)).val = ii * 24 + w ∧ q * 16 ≤ (y (1 : Fin 2)).val ∧ (y (1 : Fin 2)).val < q * 16 + 16
  · have hb : ∀ a, (![ii * 24 + w, q * 16] : Fin 2 → ℕ) a ≤ (y a).val ∧ (y a).val < (![ii * 24 + w, q * 16] : Fin 2 → ℕ) a + (![1, 16] : Fin 2 → ℕ) a := by
      intro a
      match a with
      | ⟨0, _⟩ => show ii * 24 + w ≤ (y (0 : Fin 2)).val ∧ (y (0 : Fin 2)).val < ii * 24 + w + 1; omega
      | ⟨1, _⟩ => show q * 16 ≤ (y (1 : Fin 2)).val ∧ (y (1 : Fin 2)).val < q * 16 + 16; omega
    rw [dif_pos hb, if_pos (by omega)]
    refine hp hw24 _ y hy.1 ?_
    show _ = q * 16 + ((y (1 : Fin 2)).val - q * 16)
    omega
  · rw [dif_neg]
    · by_cases h2 : (y (0 : Fin 2)).val / 24 = ii ∧ (y (0 : Fin 2)).val % 24 < w ∧ (y (1 : Fin 2)).val / 16 = q
      · rw [if_pos h2, if_pos (by omega)]
      · rw [if_neg h2, if_neg (by omega)]
    · intro ha
      have a0 : ii * 24 + w ≤ (y (0 : Fin 2)).val ∧ (y (0 : Fin 2)).val < ii * 24 + w + 1 := ha 0
      have a1 : q * 16 ≤ (y (1 : Fin 2)).val ∧ (y (1 : Fin 2)).val < q * 16 + 16 := ha 1
      omega

end Row

end Cert.Proof.PatchPure
end
-- ==== Proof.PatchTile.lean ====
module

public import proofs.«01_k».proof.Proof.WBase
public import proofs.«01_k».proof.Proof.AdjPure
public import proofs.«01_k».proof.Proof.PatchPure

@[expose] public section

noncomputable section

namespace Cert.Proof.PatchTile

open Cert.WholeIdeal Cert.WholeIdeal.Gen
open Cert.Proof.W

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F] [Named F]

local notation "𝕄" => MT nD τ sig (HIx 2) (Elt F) ℕ UU ℕ
local notation "xW" => (Memref.whole Cert.WholeIdeal.main_v0_scv : Memref Cert.WholeIdeal.sig Kind.scVector Space.hbm Cert.WholeIdeal.S9216x384 EltTy.f32)
local notation "pW" => (Memref.whole Cert.WholeIdeal.main_v1_scv : Memref Cert.WholeIdeal.sig Kind.scVector Space.hbm Cert.WholeIdeal.S8x576x768 EltTy.f32)
local notation "sX" => (Memref.whole Cert.WholeIdeal.cc0_scratch0 : Memref Cert.WholeIdeal.sig Kind.scVector Space.vmem Cert.WholeIdeal.S144x384 EltTy.f32)
local notation "sP" => (Memref.whole Cert.WholeIdeal.cc0_scratch1 : Memref Cert.WholeIdeal.sig Kind.scVector Space.vmem Cert.WholeIdeal.S72x768 EltTy.f32)

/-- `n < k`, found by its own structure: which of the twenty-four patches a store is of. -/
class Below (n k : ℕ) : Prop where
  lt : n < k
instance (k : ℕ) : Below 0 (k + 1) := ⟨Nat.succ_pos k⟩
instance (n k : ℕ) [h : Below n k] : Below (n + 1) (k + 1) := ⟨Nat.succ_lt_succ h.lt⟩

/-! Where each loop's stores go. -/

theorem off3_eq : ∀ (k : Fin k0_t1_loop.trips) (r : Fin 24),
    k0_off3 k (BitVec.ofNat 32 r.val) = ![k.val % 3 * 24 + r.val, (0 * 16 + k.val / 3) * 16] := by decide +kernel
instance (k : Fin k0_t1_loop.trips) (r : ℕ) [h : Below r 24] : ClosedOff (k0_off3 k (BitVec.ofNat 32 r)) :=
  ⟨![k.val % 3 * 24 + r, (0 * 16 + k.val / 3) * 16], off3_eq k ⟨r, h.lt⟩⟩

theorem off28_eq : ∀ (k : Fin k0_t2_loop.trips) (r : Fin 24),
    k0_off28 k (BitVec.ofNat 32 r.val) = ![k.val % 3 * 24 + r.val, (1 * 16 + k.val / 3) * 16] := by decide +kernel
instance (k : Fin k0_t2_loop.trips) (r : ℕ) [h : Below r 24] : ClosedOff (k0_off28 k (BitVec.ofNat 32 r)) :=
  ⟨![k.val % 3 * 24 + r, (1 * 16 + k.val / 3) * 16], off28_eq k ⟨r, h.lt⟩⟩

theorem off53_eq : ∀ (k : Fin k0_t3_loop.trips) (r : Fin 24),
    k0_off53 k (BitVec.ofNat 32 r.val) = ![k.val % 3 * 24 + r.val, (2 * 16 + k.val / 3) * 16] := by decide +kernel
instance (k : Fin k0_t3_loop.trips) (r : ℕ) [h : Below r 24] : ClosedOff (k0_off53 k (BitVec.ofNat 32 r)) :=
  ⟨![k.val % 3 * 24 + r, (2 * 16 + k.val / 3) * 16], off53_eq k ⟨r, h.lt⟩⟩

theorem off79_eq : ∀ (k : Fin k0_t4_loop.trips) (r : Fin 24),
    k0_off79 k (BitVec.ofNat 32 r.val) = ![k.val % 3 * 24 + r.val, (0 * 16 + k.val / 3) * 16] := by decide +kernel
instance (k : Fin k0_t4_loop.trips) (r : ℕ) [h : Below r 24] : ClosedOff (k0_off79 k (BitVec.ofNat 32 r)) :=
  ⟨![k.val % 3 * 24 + r, (0 * 16 + k.val / 3) * 16], off79_eq k ⟨r, h.lt⟩⟩

theorem off104_eq : ∀ (k : Fin k0_t5_loop.trips) (r : Fin 24),
    k0_off104 k (BitVec.ofNat 32 r.val) = ![k.val % 3 * 24 + r.val, (1 * 16 + k.val / 3) * 16] := by decide +kernel
instance (k : Fin k0_t5_loop.trips) (r : ℕ) [h : Below r 24] : ClosedOff (k0_off104 k (BitVec.ofNat 32 r)) :=
  ⟨![k.val % 3 * 24 + r, (1 * 16 + k.val / 3) * 16], off104_eq k ⟨r, h.lt⟩⟩

theorem off129_eq : ∀ (k : Fin k0_t6_loop.trips) (r : Fin 24),
    k0_off129 k (BitVec.ofNat 32 r.val) = ![k.val % 3 * 24 + r.val, (2 * 16 + k.val / 3) * 16] := by decide +kernel
instance (k : Fin k0_t6_loop.trips) (r : ℕ) [h : Below r 24] : ClosedOff (k0_off129 k (BitVec.ofNat 32 r)) :=
  ⟨![k.val % 3 * 24 + r, (2 * 16 + k.val / 3) * 16], off129_eq k ⟨r, h.lt⟩⟩

section Body

variable (d : Dev nD) (L : grid0.Coords)

abbrev thr : Thread nD τ := V d (cV L) (jV L)

/-- After `k` trips of the loop over channel `c`: the slab as it was; the patches of the trips done hold their pixels. -/
def inv (t : Buf (Elt F) ((thr d L).loc cc0_scratch0)) (c : ℕ) (k : Nat) (_ : BitVec 32) : sProp 𝕄 :=
  iprop(((sX).view.loc (thr d L) ↦{fullShare} t) ∗ ∃ f : Buf (Elt F) ((thr d L).loc cc0_scratch1),
    ⌜∀ y : S72x768.Idx, (y (1 : Fin 2)).val / 16 * 3 + (y (0 : Fin 2)).val / 24 < c * 48 + k → f y = t (PatchPure.px y)⌝
    ∗ (sP).view.loc (thr d L) ↦{fullShare} f)

/-- One trip's sixteen columns extend the patches done by one. -/
theorem inv_step (t : Buf (Elt F) ((thr d L).loc cc0_scratch0)) (c k : ℕ) (hk : k < 48) (f f' : Buf (Elt F) ((thr d L).loc cc0_scratch1))
    (hf : ∀ y : S72x768.Idx, (y (1 : Fin 2)).val / 16 * 3 + (y (0 : Fin 2)).val / 24 < c * 48 + k → f y = t (PatchPure.px y))
    (Ls : List (View.Piece (Elt F) S72x768 .f32))
    (h : PatchPure.Patched (sP).view f (fun y => t (PatchPure.px y)) (k % 3) 24 (c * 16 + k / 3) Ls)
    (y : S72x768.Idx) (hy : (y (1 : Fin 2)).val / 16 * 3 + (y (0 : Fin 2)).val / 24 < c * 48 + (k + 1)) :
    (sP).view.writes (Elt F) f Ls y = t (PatchPure.px y) := by
  have h' := h y
  simp only [Memref.view_whole, View.read_whole] at h'
  refine h'.trans ?_
  have h0 : (y (0 : Fin 2)).val < 72 := (y (0 : Fin 2)).isLt
  by_cases hc : (y (0 : Fin 2)).val / 24 = k % 3 ∧ (y (0 : Fin 2)).val % 24 < 24 ∧ (y (1 : Fin 2)).val / 16 = c * 16 + k / 3
  · rw [if_pos hc]
  · rw [if_neg hc]; exact hf y (by omega)

/-- What one load of sixteen pixels stores. -/
theorem load_px (t : Buf (Elt F) ((thr d L).loc cc0_scratch0)) {ii w q : ℕ} {off : Fin 2 → ℕ}
    (inb : ∀ a, off a + S1x16.size a ≤ S144x384.size a)
    (ho : off = ![q / 16 * 48 + ii * 16 + q % 16, w * 16]) (hw : w < 24) (x : S1x16.Idx) (y : S72x768.Idx)
    (h0 : (y (0 : Fin 2)).val = ii * 24 + w) (h1 : (y (1 : Fin 2)).val = q * 16 + (x (1 : Fin 2)).val) :
    shapeCast S1x16 (shapeCast S16 ((sX).view.readAt (Elt F) (Rect.unit (s := S144x384) off S1x16.size inb).toLoadRect t : Vec F S1x16 .f32) shapeCasts_S1x16_S16) shapeCasts_S16_S1x16 x
      = t (PatchPure.px y) := by
  rw [shapeCast_shapeCast, View.readAt_apply]
  simp only [Memref.view_whole, View.read_whole]
  congr 1
  funext a
  apply Fin.ext
  rw [LoadRect.idx_apply]
  subst ho
  have hx : (x (0 : Fin 2)).val = 0 := Nat.lt_one_iff.mp (x (0 : Fin 2)).isLt
  have hx1 : (x (1 : Fin 2)).val < 16 := (x (1 : Fin 2)).isLt
  match a with
  | ⟨0, _⟩ =>
    show q / 16 * 48 + ii * 16 + q % 16 + 1 * (x (0 : Fin 2)).val = (y (1 : Fin 2)).val / 256 * 48 + (y (0 : Fin 2)).val / 24 * 16 + (y (1 : Fin 2)).val % 256 / 16
    omega
  | ⟨1, _⟩ =>
    show w * 16 + 1 * (x (1 : Fin 2)).val = (y (0 : Fin 2)).val % 24 * 16 + (y (1 : Fin 2)).val % 16
    omega

theorem trip1 (t : Buf (Elt F) ((thr d L).loc cc0_scratch0)) (v30 : BitVec 32) (k : Fin k0_t1_loop.trips) (x : BitVec 32) :
    (inv d L t 0 k.val x : sProp 𝕄)
      ⊢ wp frame (wpE (defs₀ (F := F)) 𝒱₀ (thr d L) none) Set.univ
          (k0_t1_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v30 k x)
          fun x' => inv d L t 0 (k.val + 1) x' := by
  unfold k0_t1_body inv
  iintro ⟨Hx, %f, %hf, H⟩
  sl_exec
  sl_step
  isplitl [Hx]; · iexact Hx
  iexists _
  isplitr [H]
  rotate_left
  · iexact H
  ipureintro
  intro y hy
  refine inv_step d L t 0 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

theorem trip2 (t : Buf (Elt F) ((thr d L).loc cc0_scratch0)) (v30 : BitVec 32) (k : Fin k0_t2_loop.trips) (x : BitVec 32) :
    (inv d L t 1 k.val x : sProp 𝕄)
      ⊢ wp frame (wpE (defs₀ (F := F)) 𝒱₀ (thr d L) none) Set.univ
          (k0_t2_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v30 k x)
          fun x' => inv d L t 1 (k.val + 1) x' := by
  unfold k0_t2_body inv
  iintro ⟨Hx, %f, %hf, H⟩
  sl_exec
  sl_step
  isplitl [Hx]; · iexact Hx
  iexists _
  isplitr [H]
  rotate_left
  · iexact H
  ipureintro
  intro y hy
  refine inv_step d L t 1 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

theorem trip3 (t : Buf (Elt F) ((thr d L).loc cc0_scratch0)) (v30 : BitVec 32) (k : Fin k0_t3_loop.trips) (x : BitVec 32) :
    (inv d L t 2 k.val x : sProp 𝕄)
      ⊢ wp frame (wpE (defs₀ (F := F)) 𝒱₀ (thr d L) none) Set.univ
          (k0_t3_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v30 k x)
          fun x' => inv d L t 2 (k.val + 1) x' := by
  unfold k0_t3_body inv
  iintro ⟨Hx, %f, %hf, H⟩
  sl_exec
  sl_step
  isplitl [Hx]; · iexact Hx
  iexists _
  isplitr [H]
  rotate_left
  · iexact H
  ipureintro
  intro y hy
  refine inv_step d L t 2 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

theorem trip4 (t : Buf (Elt F) ((thr d L).loc cc0_scratch0)) (v18 v53 : BitVec 32) (k : Fin k0_t4_loop.trips) (x : BitVec 32) :
    (inv d L t 0 k.val x : sProp 𝕄)
      ⊢ wp frame (wpE (defs₀ (F := F)) 𝒱₀ (thr d L) none) Set.univ
          (k0_t4_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v18 v53 k x)
          fun x' => inv d L t 0 (k.val + 1) x' := by
  unfold k0_t4_body inv
  iintro ⟨Hx, %f, %hf, H⟩
  sl_exec
  sl_step
  isplitl [Hx]; · iexact Hx
  iexists _
  isplitr [H]
  rotate_left
  · iexact H
  ipureintro
  intro y hy
  refine inv_step d L t 0 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

theorem trip5 (t : Buf (Elt F) ((thr d L).loc cc0_scratch0)) (v18 v53 : BitVec 32) (k : Fin k0_t5_loop.trips) (x : BitVec 32) :
    (inv d L t 1 k.val x : sProp 𝕄)
      ⊢ wp frame (wpE (defs₀ (F := F)) 𝒱₀ (thr d L) none) Set.univ
          (k0_t5_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v18 v53 k x)
          fun x' => inv d L t 1 (k.val + 1) x' := by
  unfold k0_t5_body inv
  iintro ⟨Hx, %f, %hf, H⟩
  sl_exec
  sl_step
  isplitl [Hx]; · iexact Hx
  iexists _
  isplitr [H]
  rotate_left
  · iexact H
  ipureintro
  intro y hy
  refine inv_step d L t 1 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

theorem trip6 (t : Buf (Elt F) ((thr d L).loc cc0_scratch0)) (v18 v53 : BitVec 32) (k : Fin k0_t6_loop.trips) (x : BitVec 32) :
    (inv d L t 2 k.val x : sProp 𝕄)
      ⊢ wp frame (wpE (defs₀ (F := F)) 𝒱₀ (thr d L) none) Set.univ
          (k0_t6_body L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7 v18 v53 k x)
          fun x' => inv d L t 2 (k.val + 1) x' := by
  unfold k0_t6_body inv
  iintro ⟨Hx, %f, %hf, H⟩
  sl_exec
  sl_step
  isplitl [Hx]; · iexact Hx
  iexists _
  isplitr [H]
  rotate_left
  · iexact H
  ipureintro
  intro y hy
  refine inv_step d L t 2 k.val k.isLt f f hf _ ?_ y hy
  iterate 24 (refine PatchPure.patched_cons (ClosedOff.eq) rfl (fun hw x y h0 h1 => load_px d L t _ (by clear * - k; revert k; decide +kernel) hw x y h0 h1) (by decide) ?_)
  exact PatchPure.patched_nil _ _

end Body
end Cert.Proof.PatchTile
end
-- ==== Proof.PatchOwn.lean ====
module

public import proofs.«01_k».proof.Proof.PatchPure

@[expose] public section

noncomputable section

/-! # What a tile reads of the image and writes of the patch matrix

The image is laid out as 8 × 3 × 384 rows of 384 pixels. Tile `w` builds the patch rows `6 (w % 4) …` of image `w / 4`, three at
a time: half `h` takes 48 pixel rows of each channel and fills 72 rows of the patch matrix. -/

namespace Cert.Proof.PatchPure

open Idealize.ShloMosaic Idealize.ShloMosaic.ValueIdx

/-- The patch matrix of all images. -/
def patches {α : Type} (x : (⟨2, ![9216, 384]⟩ : Shape).Idx → α) : (⟨3, ![8, 576, 768]⟩ : Shape).Idx → α := fun y =>
  x (ix2 ⟨((y (0 : Fin 3)).val * 3 + (y (2 : Fin 3)).val / 256) * 384 + (y (1 : Fin 3)).val / 24 * 16 + (y (2 : Fin 3)).val % 256 / 16,
      by have h0 : (y (0 : Fin 3)).val < 8 := (y (0 : Fin 3)).isLt
         have h1 : (y (1 : Fin 3)).val < 576 := (y (1 : Fin 3)).isLt
         have h2 : (y (2 : Fin 3)).val < 768 := (y (2 : Fin 3)).isLt
         omega⟩
    ⟨(y (1 : Fin 3)).val % 24 * 16 + (y (2 : Fin 3)).val % 16, by omega⟩)

/-- The slab tile `w` fetches for its half `h`: 48 rows of each of the three channels. -/
def slab {α : Type} (x : (⟨2, ![9216, 384]⟩ : Shape).Idx → α) (w h : ℕ) (hw : w < 32) (hh : h < 2) :
    (⟨2, ![144, 384]⟩ : Shape).Idx → α := fun y =>
  x (ix2 ⟨(w / 4 * 3 + (y (0 : Fin 2)).val / 48) * 384 + (w % 4 * 6 + 3 * h) * 16 + (y (0 : Fin 2)).val % 48,
      by have h0 : (y (0 : Fin 2)).val < 144 := (y (0 : Fin 2)).isLt
         omega⟩ (y (1 : Fin 2)))

/-- The 72 rows of half number `v` (of 64). -/
def own72 (W v : ℕ) : Finset (⟨3, ![8, 576, W]⟩ : Shape).Idx :=
  Finset.univ.filter fun i => (i (0 : Fin 3)).val * 8 + (i (1 : Fin 3)).val / 72 = v

theorem mem_own72 {W v : ℕ} (i : (⟨3, ![8, 576, W]⟩ : Shape).Idx) :
    i ∈ own72 W v ↔ (i (0 : Fin 3)).val * 8 + (i (1 : Fin 3)).val / 72 = v := by
  unfold own72; rw [Finset.mem_filter, and_iff_right (Finset.mem_univ i)]

theorem own72_disjoint {W v v' : ℕ} (h : v ≠ v') : Disjoint (own72 W v) (own72 W v') :=
  Finset.disjoint_left.mpr fun i h1 h2 => h (((mem_own72 i).mp h1).symm.trans ((mem_own72 i).mp h2))

theorem own72_cover (W : ℕ) : (Finset.univ : Finset ((Fin 2 × Fin 16) × Fin 2)).biUnion
    (fun p => own72 W (2 * (p.1.2.val * 2 + p.1.1.val) + p.2.val)) = Finset.univ := by
  refine Finset.eq_univ_of_forall fun i => Finset.mem_biUnion.mpr ?_
  have h0 : (i (0 : Fin 3)).val < 8 := (i (0 : Fin 3)).isLt
  have h1 : (i (1 : Fin 3)).val < 576 := (i (1 : Fin 3)).isLt
  refine ⟨((⟨((i (0 : Fin 3)).val * 8 + (i (1 : Fin 3)).val / 72) / 2 % 2, by omega⟩,
    ⟨((i (0 : Fin 3)).val * 8 + (i (1 : Fin 3)).val / 72) / 4, by omega⟩),
    ⟨((i (0 : Fin 3)).val * 8 + (i (1 : Fin 3)).val / 72) % 2, by omega⟩), Finset.mem_univ _, (mem_own72 i).mpr ?_⟩
  show _ = 2 * (((i (0 : Fin 3)).val * 8 + (i (1 : Fin 3)).val / 72) / 4 * 2 + ((i (0 : Fin 3)).val * 8 + (i (1 : Fin 3)).val / 72) / 2 % 2)
    + ((i (0 : Fin 3)).val * 8 + (i (1 : Fin 3)).val / 72) % 2
  omega

theorem own72_pairwise (W : ℕ) : ∀ p ∈ (Finset.univ : Finset ((Fin 2 × Fin 16) × Fin 2)), ∀ p' ∈ (Finset.univ : Finset ((Fin 2 × Fin 16) × Fin 2)), p ≠ p' →
    Disjoint (own72 W (2 * (p.1.2.val * 2 + p.1.1.val) + p.2.val)) (own72 W (2 * (p'.1.2.val * 2 + p'.1.1.val) + p'.2.val)) := by
  intro p _ p' _ h
  refine own72_disjoint fun e => h ?_
  have h1 := p.1.1.isLt; have h2 := p'.1.1.isLt; have h3 := p.2.isLt; have h4 := p'.2.isLt
  exact Prod.ext (Prod.ext (Fin.ext (by omega)) (Fin.ext (by omega))) (Fin.ext (by omega))

/-- The slice a half writes is the 72 rows it owns. -/
theorem unit_own72 {W : ℕ} {off : Fin 3 → ℕ} {v : ℕ} (h : off = ![v / 8, v % 8 * 72, 0])
    (inb : ∀ a, off a + (![1, 72, W] : Fin 3 → ℕ) a ≤ (⟨3, ![8, 576, W]⟩ : Shape).size a) :
    (Rect.unit (s := ⟨3, ![8, 576, W]⟩) off ![1, 72, W] inb).set = own72 W v := by
  subst h
  ext i
  rw [Rect.mem_set_unit, mem_own72]
  have h1 : (i (1 : Fin 3)).val < 576 := (i (1 : Fin 3)).isLt
  have h2 : (i (2 : Fin 3)).val < W := (i (2 : Fin 3)).isLt
  constructor
  · intro hi
    have a0 : v / 8 ≤ (i (0 : Fin 3)).val ∧ (i (0 : Fin 3)).val < v / 8 + 1 := hi 0
    have a1 : v % 8 * 72 ≤ (i (1 : Fin 3)).val ∧ (i (1 : Fin 3)).val < v % 8 * 72 + 72 := hi 1
    omega
  · intro hi a
    match a with
    | ⟨0, _⟩ => show v / 8 ≤ (i (0 : Fin 3)).val ∧ (i (0 : Fin 3)).val < v / 8 + 1; omega
    | ⟨1, _⟩ => show v % 8 * 72 ≤ (i (1 : Fin 3)).val ∧ (i (1 : Fin 3)).val < v % 8 * 72 + 72; omega
    | ⟨2, _⟩ => show 0 ≤ (i (2 : Fin 3)).val ∧ (i (2 : Fin 3)).val < 0 + W; omega

theorem emb_own72 {W : ℕ} {off : Fin 3 → ℕ} {v : ℕ} (h : off = ![v / 8, v % 8 * 72, 0])
    (inb : ∀ a, off a + (![1, 72, W] : Fin 3 → ℕ) a ≤ (⟨3, ![8, 576, W]⟩ : Shape).size a)
    (hn : (⟨2, ![72, W]⟩ : Shape).numel = (⟨3, ![1, 72, W]⟩ : Shape).numel) (r : Fin 72) (c : Fin W) (hv : v < 64) :
    (Rect.unit (s := ⟨3, ![8, 576, W]⟩) off ![1, 72, W] inb).emb (Shape.reshapeEquiv hn (ix2 r c))
      = ix3 ⟨v / 8, by omega⟩ ⟨v % 8 * 72 + r.val, by omega⟩ c := by
  subst h
  rw [reshapeEquiv_ix2_1ab]
  funext a
  apply Fin.ext
  rw [Rect.emb_apply]
  match a with
  | ⟨0, _⟩ => show v / 8 + 1 * 0 = v / 8; omega
  | ⟨1, _⟩ => show v % 8 * 72 + 1 * r.val = v % 8 * 72 + r.val; omega
  | ⟨2, _⟩ => show 0 + 1 * c.val = c.val; omega

/-- The patch matrix of a slab is the tile's rows of the patch matrix of the images. -/
theorem slab_px {α : Type} (x : (⟨2, ![9216, 384]⟩ : Shape).Idx → α) (w h : ℕ) (hw : w < 32) (hh : h < 2) (r : Fin 72) (c : Fin 768) :
    slab x w h hw hh (px (ix2 r c))
      = patches x (ix3 ⟨(2 * w + h) / 8, by omega⟩ ⟨(2 * w + h) % 8 * 72 + r.val, by omega⟩ c) := by
  unfold slab patches px
  refine congrArg x ?_
  have hr := r.isLt
  have hc := c.isLt
  funext a
  apply Fin.ext
  match a with
  | ⟨0, _⟩ =>
    show (w / 4 * 3 + (c.val / 256 * 48 + r.val / 24 * 16 + c.val % 256 / 16) / 48) * 384 + (w % 4 * 6 + 3 * h) * 16
        + (c.val / 256 * 48 + r.val / 24 * 16 + c.val % 256 / 16) % 48
      = ((2 * w + h) / 8 * 3 + c.val / 256) * 384 + ((2 * w + h) % 8 * 72 + r.val) / 24 * 16 + c.val % 256 / 16
    omega
  | ⟨1, _⟩ =>
    show r.val % 24 * 16 + c.val % 16 = ((2 * w + h) % 8 * 72 + r.val) % 24 * 16 + c.val % 16
    omega

end Cert.Proof.PatchPure
end
-- ==== Proof.PatchBody.lean ====
/-
  The patch call's task of one tile: three channel slabs in, their patch matrix, out; twice.
-/
module

public import proofs.«01_k».proof.Proof.PatchTile
public import proofs.«01_k».proof.Proof.PatchOwn

@[expose] public section

noncomputable section

namespace Cert.Proof.PatchBody

open Cert.WholeIdeal Cert.WholeIdeal.Gen
open Cert.Proof.W
open Cert.Proof.PatchTile (thr inv)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F] [Named F]

local notation "𝕄" => MT nD τ sig (HIx 2) (Elt F) ℕ UU ℕ
local notation "xW" => (Memref.whole Cert.WholeIdeal.main_v0_scv : Memref Cert.WholeIdeal.sig Kind.scVector Space.hbm Cert.WholeIdeal.S9216x384 EltTy.f32)
local notation "pW" => (Memref.whole Cert.WholeIdeal.main_v1_scv : Memref Cert.WholeIdeal.sig Kind.scVector Space.hbm Cert.WholeIdeal.S8x576x768 EltTy.f32)
local notation "sX" => (Memref.whole Cert.WholeIdeal.cc0_scratch0 : Memref Cert.WholeIdeal.sig Kind.scVector Space.vmem Cert.WholeIdeal.S144x384 EltTy.f32)
local notation "sP" => (Memref.whole Cert.WholeIdeal.cc0_scratch1 : Memref Cert.WholeIdeal.sig Kind.scVector Space.vmem Cert.WholeIdeal.S72x768 EltTy.f32)

section Body

variable (d : Dev nD) (L : grid0.Coords)

abbrev xLoc (d : Dev nD) : Loc nD τ sig := (SparseCore.T d).loc main_v0
abbrev pLoc (d : Dev nD) : Loc nD τ sig := (SparseCore.T d).loc main_v1

local notation "pR0" => Memref.squeeze (Memref.slice pW (Rect.unit (s := S8x576x768) (k0_off77 L 0#32) S1x72x768.size (k0_off77_inb L 0)) (fun _ => rfl)) S72x768 squeezes_S1x72x768_S72x768
local notation "pR1" => Memref.squeeze (Memref.slice pW (Rect.unit (s := S8x576x768) (k0_off77 L 3#32) S1x72x768.size (k0_off77_inb L 1)) (fun _ => rfl)) S72x768 squeezes_S1x72x768_S72x768

theorem off1_eq (c : Fin 3) (h : Fin 2) : k0_off1 L (BitVec.ofNat 32 c.val) (BitVec.ofNat 32 (3 * h.val))
    = ![(wL L / 4 * 3 + c.val) * 384 + (wL L % 4 * 6 + 3 * h.val) * 16, 0] := by
  have key : ∀ (a : Fin (grid0.bound 0)) (s : Fin (grid0.bound 1)) (c : Fin 3) (h : Fin 2),
      k0_off1 (coordsV a s) (BitVec.ofNat 32 c.val) (BitVec.ofNat 32 (3 * h.val))
        = ![(wL (coordsV a s) / 4 * 3 + c.val) * 384 + (wL (coordsV a s) % 4 * 6 + 3 * h.val) * 16, 0] := by decide +kernel
  rw [eq_coordsV L]; exact key _ _ _ _

theorem off77_eq (h : Fin 2) : k0_off77 L (BitVec.ofNat 32 (3 * h.val))
    = ![(2 * wL L + h.val) / 8, (2 * wL L + h.val) % 8 * 72, 0] := by
  have key : ∀ (a : Fin (grid0.bound 0)) (s : Fin (grid0.bound 1)) (h : Fin 2),
      k0_off77 (coordsV a s) (BitVec.ofNat 32 (3 * h.val))
        = ![(2 * wL (coordsV a s) + h.val) / 8, (2 * wL (coordsV a s) + h.val) % 8 * 72, 0] := by decide +kernel
  rw [eq_coordsV L]; exact key _ _ _

/-- What is fetched for channel `c` of half `h`. -/
theorem slice_val (t : Buf (Elt F) (xLoc d)) (c : Fin 3) (h : Fin 2) (x : S48x384.Idx) (y : S144x384.Idx)
    (h0 : (y (0 : Fin 2)).val = c.val * 48 + (x (0 : Fin 2)).val) (h1 : (y (1 : Fin 2)).val = (x (1 : Fin 2)).val) :
    (Memref.slice xW (Rect.unit (s := S9216x384) (k0_off1 L (BitVec.ofNat 32 c.val) (BitVec.ofNat 32 (3 * h.val))) S48x384.size (k0_off1_inb L c h)) (fun _ => rfl)).view.read (Elt F) t x
      = PatchPure.slab t (wL L) h.val (wL_lt L) h.isLt y := by
  refine ((View.read_apply (v := (Memref.slice xW (Rect.unit (s := S9216x384) (k0_off1 L (BitVec.ofNat 32 c.val) (BitVec.ofNat 32 (3 * h.val))) S48x384.size (k0_off1_inb L c h)) (fun _ => rfl)).view) t x).trans (cast_eq _ _)).trans (congrArg t ?_)
  have hx0 : (x (0 : Fin 2)).val < 48 := (x (0 : Fin 2)).isLt
  funext a
  apply Fin.ext
  refine (Rect.emb_apply (Rect.unit (s := S9216x384) (k0_off1 L (BitVec.ofNat 32 c.val) (BitVec.ofNat 32 (3 * h.val))) S48x384.size (k0_off1_inb L c h)) x a).trans ?_
  match a with
  | ⟨0, _⟩ =>
    refine (congrArg (· + 1 * (x (0 : Fin 2)).val) (congrFun (off1_eq L c h) 0)).trans ?_
    show (wL L / 4 * 3 + c.val) * 384 + (wL L % 4 * 6 + 3 * h.val) * 16 + 1 * (x (0 : Fin 2)).val
      = (wL L / 4 * 3 + (y (0 : Fin 2)).val / 48) * 384 + (wL L % 4 * 6 + 3 * h.val) * 16 + (y (0 : Fin 2)).val % 48
    omega
  | ⟨1, _⟩ =>
    refine (congrArg (· + 1 * (x (1 : Fin 2)).val) (congrFun (off1_eq L c h) 1)).trans ?_
    show 0 + 1 * (x (1 : Fin 2)).val = (y (1 : Fin 2)).val
    omega

/-- The three fetches fill the slab. -/
theorem slab_val (j : Buf (Elt F) ((thr d L).loc cc0_scratch0)) (t : Buf (Elt F) (xLoc d)) (h : Fin 2)
    (inb2 : ∀ a, (![96, 0] : Fin 2 → ℕ) a + S48x384.size a ≤ S144x384.size a) (inb1 : ∀ a, (![48, 0] : Fin 2 → ℕ) a + S48x384.size a ≤ S144x384.size a)
    (inb0 : ∀ a, (![0, 0] : Fin 2 → ℕ) a + S48x384.size a ≤ S144x384.size a) :
    (sX).view.writes (Elt F) j
      [⟨Rect.unit (s := S144x384) ![96, 0] S48x384.size inb2, (Memref.slice xW (Rect.unit (s := S9216x384) (k0_off1 L (BitVec.ofNat 32 (2 : Fin 3).val) (BitVec.ofNat 32 (3 * h.val))) S48x384.size (k0_off1_inb L 2 h)) (fun _ => rfl)).view.read (Elt F) t⟩,
        ⟨Rect.unit (s := S144x384) ![48, 0] S48x384.size inb1, (Memref.slice xW (Rect.unit (s := S9216x384) (k0_off1 L (BitVec.ofNat 32 (1 : Fin 3).val) (BitVec.ofNat 32 (3 * h.val))) S48x384.size (k0_off1_inb L 1 h)) (fun _ => rfl)).view.read (Elt F) t⟩,
        ⟨Rect.unit (s := S144x384) ![0, 0] S48x384.size inb0, (Memref.slice xW (Rect.unit (s := S9216x384) (k0_off1 L (BitVec.ofNat 32 (0 : Fin 3).val) (BitVec.ofNat 32 (3 * h.val))) S48x384.size (k0_off1_inb L 0 h)) (fun _ => rfl)).view.read (Elt F) t⟩]
      = PatchPure.slab t (wL L) h.val (wL_lt L) h.isLt := by
  funext y
  have hy0 : (y (0 : Fin 2)).val < 144 := (y (0 : Fin 2)).isLt
  have hy1 : (y (1 : Fin 2)).val < 384 := (y (1 : Fin 2)).isLt
  have hb : ∀ o : ℕ, (o ≤ (y (0 : Fin 2)).val ∧ (y (0 : Fin 2)).val < o + 48) →
      ∀ a, (![o, 0] : Fin 2 → ℕ) a ≤ (y a).val ∧ (y a).val < (![o, 0] : Fin 2 → ℕ) a + S48x384.size a := by
    intro o h a
    match a with
    | ⟨0, _⟩ => exact h
    | ⟨1, _⟩ => exact ⟨Nat.zero_le _, by show (y (1 : Fin 2)).val < 0 + 384; omega⟩
  have hn : ∀ o : ℕ, ¬ (o ≤ (y (0 : Fin 2)).val ∧ (y (0 : Fin 2)).val < o + 48) →
      ¬ ∀ a, (![o, 0] : Fin 2 → ℕ) a ≤ (y a).val ∧ (y a).val < (![o, 0] : Fin 2 → ℕ) a + S48x384.size a :=
    fun o h h' => h (h' 0)
  have rd : ∀ w : Buf (Elt F) ((thr d L).loc cc0_scratch0), w y = (sX).view.read (Elt F) w y := fun w => by
    simp only [Memref.view_whole, View.read_whole]
  refine (rd _).trans ?_
  rw [View.read_writes_cons_unit _ _ _ _ _ y rfl]
  by_cases h2 : 96 ≤ (y (0 : Fin 2)).val ∧ (y (0 : Fin 2)).val < 96 + 48
  · refine (dif_pos (hb 96 h2)).trans ?_
    refine slice_val d L t 2 h _ y ?_ ?_
    · show _ = 2 * 48 + ((y (0 : Fin 2)).val - 96); omega
    · show _ = (y (1 : Fin 2)).val - 0; omega
  refine (dif_neg (hn 96 h2)).trans ?_
  rw [View.read_writes_cons_unit _ _ _ _ _ y rfl]
  by_cases h1 : 48 ≤ (y (0 : Fin 2)).val ∧ (y (0 : Fin 2)).val < 48 + 48
  · refine (dif_pos (hb 48 h1)).trans ?_
    refine slice_val d L t 1 h _ y ?_ ?_
    · show _ = 1 * 48 + ((y (0 : Fin 2)).val - 48); omega
    · show _ = (y (1 : Fin 2)).val - 0; omega
  refine (dif_neg (hn 48 h1)).trans ?_
  rw [View.read_writes_cons_unit _ _ _ _ _ y rfl]
  refine (dif_pos (hb 0 (by omega))).trans ?_
  refine slice_val d L t 0 h _ y ?_ ?_
  · show _ = 0 * 48 + ((y (0 : Fin 2)).val - 0); omega
  · show _ = (y (1 : Fin 2)).val - 0; omega

/-- The rows of the patch matrix half `h` of the tile writes. -/
abbrev pS (h : Fin 2) : Memref sig Kind.scVector Space.hbm S72x768 EltTy.f32 := Memref.squeeze (Memref.slice pW (Rect.unit (s := S8x576x768) (k0_off77 L (BitVec.ofNat 32 (3 * h.val))) S1x72x768.size (k0_off77_inb L h)) (fun _ => rfl)) S72x768 squeezes_S1x72x768_S72x768

theorem set_pS (h : Fin 2) : (pS L h).view.set = PatchPure.own72 768 (2 * wL L + h.val) := by
  show ((View.slice (pW).view (Rect.unit (s := S8x576x768) (k0_off77 L (BitVec.ofNat 32 (3 * h.val))) S1x72x768.size (k0_off77_inb L h))).reshape S72x768 squeezes_S1x72x768_S72x768.numel_eq).set = _
  exact (View.set_reshape _ _).trans ((View.set_slice_whole _ _).trans (PatchPure.unit_own72 (off77_eq L h) _))

theorem emb_pS (h : Fin 2) (r : Fin 72) (c : Fin 768) : (pS L h).view.emb (ix2 r c)
    = ix3 ⟨(2 * wL L + h.val) / 8, by have := wL_lt L; omega⟩ ⟨(2 * wL L + h.val) % 8 * 72 + r.val, by omega⟩ c :=
  PatchPure.emb_own72 (off77_eq L h) (k0_off77_inb L h) squeezes_S1x72x768_S72x768.numel_eq r c (by have := wL_lt L; omega)

theorem pts_pS (h : Fin 2) (f : Buf (Elt F) (pLoc d)) :
    ((pS L h).view.loc (thr d L) ↦[(pS L h).view.set]{fullShare} f : sProp 𝕄) = pLoc d ↦[PatchPure.own72 768 (2 * wL L + h.val)]{fullShare} f := by
  rw [set_pS]

/-- The rows written out are the half's rows of the patch matrix. -/
theorem out_val (t : Buf (Elt F) (xLoc d)) (g : Buf (Elt F) (pLoc d)) (h : Fin 2) (f : S72x768.Idx → F .f32)
    (hf : ∀ y, f y = PatchPure.slab t (wL L) h.val (wL_lt L) h.isLt (PatchPure.px y)) :
    ∀ x ∈ (pS L h).view.set, (pS L h).view.writes (Elt F) g [⟨Rect.whole S72x768, f⟩] x = PatchPure.patches t x := by
  intro x hx
  refine (congrFun (View.write_univ_eq_writes_whole (pS L h).view g [] f).symm x).trans ?_
  obtain ⟨y, -, rfl⟩ := Finset.mem_map.mp hx
  refine (View.write_emb_of_mem (v := (pS L h).view) g f (Finset.mem_univ y)).trans ((cast_eq _ _).trans ?_)
  rw [hf y]
  have hy : y = ix2 (y (0 : Fin 2)) (y (1 : Fin 2)) := by
    funext a; match a with | 0 => rfl | 1 => rfl
  rw [hy]
  exact (PatchPure.slab_px t (wL L) h.val (wL_lt L) h.isLt _ _).trans (congrArg (PatchPure.patches t) (emb_pS L h _ _)).symm

set_option maxHeartbeats 600000 in
theorem body_run (O : CellTallies nD τ sig (HIx 2)) (W : Waits sig (HIx 2)) (q : PosShare TreeShare) (t : Buf (Elt F) (xLoc d)) (g : Buf (Elt F) (pLoc d))
    (f0 : Buf (Elt F) ((thr d L).loc cc0_scratch0)) (f1 : Buf (Elt F) ((thr d L).loc cc0_scratch1)) :
    (iprop(Transfers.MayWaits (thr d L) (none : HIx 2) O
        ∗ ((xW).view.loc (thr d L) ↦{q} t)
        ∗ ((pR0).view.loc (thr d L) ↦[(pR0).view.set]{fullShare} g) ∗ ((pR1).view.loc (thr d L) ↦[(pR1).view.set]{fullShare} g)
        ∗ ((sX).view.loc (thr d L) ↦{fullShare} f0) ∗ ((sP).view.loc (thr d L) ↦{fullShare} f1)
        ∗ semVal (thr d L, SemLoc.dma cc0_scoped0.sem) 0 ∗ semVal (thr d L, SemLoc.dma cc0_scoped1.sem) 0
        ∗ semVal (thr d L, SemLoc.dma cc0_scoped2.sem) 0 ∗ semVal (thr d L, SemLoc.dma cc0_scoped3.sem) 0
        ∗ semVal (thr d L, SemLoc.dma cc0_scoped4.sem) 0 ∗ semVal (thr d L, SemLoc.dma cc0_scoped5.sem) 0
        ∗ semVal (thr d L, SemLoc.dma cc0_scoped6.sem) 0 ∗ semVal (thr d L, SemLoc.dma cc0_scoped7.sem) 0
        ∗ owes (thr d L) O W) : sProp 𝕄)
      ⊢ wp frame (wpE (defs₀ (F := F)) 𝒱₀ (thr d L) none) Set.univ
          (cc0__sc_im2col L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7)
          fun _ => iprop(((xW).view.loc (thr d L) ↦{q} t)
            ∗ ((pR0).view.loc (thr d L) ↦[(pR0).view.set]{fullShare} PatchPure.patches t) ∗ ((pR1).view.loc (thr d L) ↦[(pR1).view.set]{fullShare} PatchPure.patches t)
            ∗ (∃ f, (sX).view.loc (thr d L) ↦{fullShare} f) ∗ (∃ f, (sP).view.loc (thr d L) ↦{fullShare} f)
            ∗ semVal (thr d L, SemLoc.dma cc0_scoped0.sem) 0 ∗ semVal (thr d L, SemLoc.dma cc0_scoped1.sem) 0
            ∗ semVal (thr d L, SemLoc.dma cc0_scoped2.sem) 0 ∗ semVal (thr d L, SemLoc.dma cc0_scoped3.sem) 0
            ∗ semVal (thr d L, SemLoc.dma cc0_scoped4.sem) 0 ∗ semVal (thr d L, SemLoc.dma cc0_scoped5.sem) 0
            ∗ semVal (thr d L, SemLoc.dma cc0_scoped6.sem) 0 ∗ semVal (thr d L, SemLoc.dma cc0_scoped7.sem) 0
            ∗ ∃ W', ⌜∀ p ∈ W', p ∈ W ∨ p.2 = none⌝ ∗ owes (thr d L) O W') := by
  rw [cc0__sc_im2col_eq_skeleton]; unfold cc0__sc_im2col_skel
  iintro ⟨Hmw, Hx, Hp0, Hp1, HsX, HsP, Hs0, Hs1, Hs2, Hs3, Hs4, Hs5, Hs6, Hs7, HO⟩
  sl_exec
  have hw : ∀ inb2 inb1 inb0, (sX).view.writes (Elt F) (sX).view.junk
      [⟨Rect.unit (s := S144x384) ![96, 0] S48x384.size inb2, body_run.sl.dma0_2 d L t⟩, ⟨Rect.unit (s := S144x384) ![48, 0] S48x384.size inb1, body_run.sl.dma0_1 d L t⟩,
        ⟨Rect.unit (s := S144x384) ![0, 0] S48x384.size inb0, body_run.sl.dma0 d L t⟩] = PatchPure.slab t (wL L) 0 (wL_lt L) (by decide) :=
    fun inb2 inb1 inb0 => slab_val d L _ t 0 inb2 inb1 inb0
  rw [hw]
  sl_for (PatchTile.inv d L (PatchPure.slab t (wL L) 0 (wL_lt L) (by decide)) 0) $$ [HsX HsP]
  case region => intro k x; exact PatchTile.trip1 d L _ (body_run.sl.v30 L) k x
  · unfold PatchTile.inv
    isplitl [HsX]; · iexact HsX
    iexists _
    isplitr
    rotate_left
    · iexact HsP
    ipureintro
    intro y hy
    exact absurd hy (Nat.not_lt_zero _)
  iintro %x1 HI
  sl_exec
  sl_for (PatchTile.inv d L (PatchPure.slab t (wL L) 0 (wL_lt L) (by decide)) 1) $$ [HI]
  case region => intro k x; exact PatchTile.trip2 d L _ (body_run.sl.v30 L) k x
  · iexact HI
  iintro %x2 HI
  sl_exec
  sl_for (PatchTile.inv d L (PatchPure.slab t (wL L) 0 (wL_lt L) (by decide)) 2) $$ [HI]
  case region => intro k x; exact PatchTile.trip3 d L _ (body_run.sl.v30 L) k x
  · iexact HI
  iintro %x3 HI
  unfold PatchTile.inv
  icases HI with ⟨HsX, %f, %hf, HsP⟩
  sl_exec
  have hw' : ∀ j inb2 inb1 inb0, (sX).view.writes (Elt F) j
      [⟨Rect.unit (s := S144x384) ![96, 0] S48x384.size inb2, body_run.sl.dma0_6 d L t⟩, ⟨Rect.unit (s := S144x384) ![48, 0] S48x384.size inb1, body_run.sl.dma0_5 d L t⟩,
        ⟨Rect.unit (s := S144x384) ![0, 0] S48x384.size inb0, body_run.sl.dma0_4 d L t⟩] = PatchPure.slab t (wL L) 1 (wL_lt L) (by decide) :=
    fun j inb2 inb1 inb0 => slab_val d L j t 1 inb2 inb1 inb0
  rw [hw']
  sl_for (PatchTile.inv d L (PatchPure.slab t (wL L) 1 (wL_lt L) (by decide)) 0) $$ [HsX HsP]
  case region => intro k x; exact PatchTile.trip4 d L _ (body_run.sl.v18 L) (body_run.sl.v30 L) k x
  · unfold PatchTile.inv
    isplitl [HsX]; · iexact HsX
    iexists _
    isplitr
    rotate_left
    · iexact HsP
    ipureintro
    intro y hy
    exact absurd hy (Nat.not_lt_zero _)
  iintro %x4 HI
  sl_exec
  sl_for (PatchTile.inv d L (PatchPure.slab t (wL L) 1 (wL_lt L) (by decide)) 1) $$ [HI]
  case region => intro k x; exact PatchTile.trip5 d L _ (body_run.sl.v18 L) (body_run.sl.v30 L) k x
  · iexact HI
  iintro %x5 HI
  sl_exec
  sl_for (PatchTile.inv d L (PatchPure.slab t (wL L) 1 (wL_lt L) (by decide)) 2) $$ [HI]
  case region => intro k x; exact PatchTile.trip6 d L _ (body_run.sl.v18 L) (body_run.sl.v30 L) k x
  · iexact HI
  iintro %x6 HI
  unfold PatchTile.inv
  icases HI with ⟨HsX, %f2, %hf2, HsP⟩
  sl_exec
  sl_step
  have hk : ∀ y : S72x768.Idx, (y (1 : Fin 2)).val / 16 * 3 + (y (0 : Fin 2)).val / 24 < 2 * 48 + 48 := fun y => by
    have h0 : (y (0 : Fin 2)).val < 72 := (y (0 : Fin 2)).isLt
    have h1 : (y (1 : Fin 2)).val < 768 := (y (1 : Fin 2)).isLt
    omega
  have hout0 : ∀ x ∈ (pS L 0).view.set, (pS L 0).view.writes (Elt F) (pS L 0).view.junk [⟨Rect.whole S72x768, body_run.sl.dma0_3 d L f⟩] x = PatchPure.patches t x :=
    out_val d L t (pS L 0).view.junk 0 f (fun y => hf y (hk y))
  have hout1 : ∀ x ∈ (pS L 1).view.set, (pS L 1).view.writes (Elt F) g [⟨Rect.whole S72x768, body_run.sl.dma0_7 d L f2⟩] x = PatchPure.patches t x :=
    out_val d L t g 1 f2 (fun y => hf2 y (hk y))
  ihave Hp0' := (Entails.of_eq (pointsTo_congr hout0)) $$ Hp0
  ihave Hp1' := (Entails.of_eq (pointsTo_congr hout1)) $$ Hp1
  isplitl [Hx]; · iexact Hx
  isplitl [Hp0']; · iexact Hp0'
  isplitl [Hp1']; · iexact Hp1'
  isplitl [HsX]; · iexists _; iexact HsX
  isplitl [HsP]; · iexists _; iexact HsP
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  iexists _; isplitr
  swap; · iexact HO
  ipureintro; intro p hp
  iterate 8 (rcases Finset.mem_insert.mp hp with hp | hp; · exact .inr (hp ▸ rfl))
  exact .inl hp

end Body

end Cert.Proof.PatchBody
end
-- ==== Proof.WAdjTile.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.AdjPure
public import proofs.«01_k».proof.Proof.WBase

@[expose] public section

noncomputable section

namespace Cert.Proof.WAdjTile

open Cert.WholeIdeal Cert.WholeIdeal.Gen
open Cert.Proof.W

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type}

local notation "𝕄" => MT nD τ sig (HIx 2) (Elt F) ℕ UU ℕ
local notation "iW" => (Memref.whole Cert.WholeIdeal.main_v5_1_scv : Memref Cert.WholeIdeal.sig Kind.scVector Space.hbm Cert.WholeIdeal.S8x576x16 EltTy.i32)
local notation "oW" => (Memref.whole Cert.WholeIdeal.main_v6_scv : Memref Cert.WholeIdeal.sig Kind.scVector Space.hbm Cert.WholeIdeal.S8x576x576 EltTy.f32)
local notation "sI" => (Memref.whole Cert.WholeIdeal.cc2_scratch0 : Memref Cert.WholeIdeal.sig Kind.scVector Space.vmem Cert.WholeIdeal.S144x16 EltTy.i32)
local notation "sB" => (Memref.whole Cert.WholeIdeal.cc2_scratch1 : Memref Cert.WholeIdeal.sig Kind.scVector Space.vmem Cert.WholeIdeal.S144x576 EltTy.f32)

variable [FloatOps F] [Named F]

theorem off1_eq (L : grid2.Coords) : k2_off1 L = ![wL2 L / 4, wL2 L % 4 * 144, 0] := by
  have h : ∀ (c : Fin (grid2.bound 0)) (s : Fin (grid2.bound 1)), k2_off1 (coordsV2 c s) = ![wL2 (coordsV2 c s) / 4, wL2 (coordsV2 c s) % 4 * 144, 0] := by
    decide +kernel
  rw [eq_coordsV2 L]; exact h _ _

theorem off39_eq (L : grid2.Coords) : k2_off39 L = ![wL2 L / 4, wL2 L % 4 * 144, 0] := by
  have h : ∀ (c : Fin (grid2.bound 0)) (s : Fin (grid2.bound 1)), k2_off39 (coordsV2 c s) = ![wL2 (coordsV2 c s) / 4, wL2 (coordsV2 c s) % 4 * 144, 0] := by
    decide +kernel
  rw [eq_coordsV2 L]; exact h _ _

section Body

variable (d : Dev nD) (L : grid2.Coords)

abbrev thr : Thread nD τ := V d (cV2 L) (jV2 L)

/-- After `k` rows of zeroing: those rows are zero. -/
def inv1 (k : Nat) (_ : BitVec 32) : sProp 𝕄 :=
  iprop(∃ f : Buf (Elt F) ((thr d L).loc cc2_scratch1), ⌜∀ y : S144x576.Idx, (y (0 : Fin 2)).val < k → f y = (AdjPure.zero : F .f32)⌝
    ∗ (sB).view.loc (thr d L) ↦{fullShare} f)

/-- After `k` rows of scattering: those rows are the adjacency, the rest zero. -/
def inv2 (t : Buf (Elt F) ((thr d L).loc cc2_scratch0)) (k : Nat) (_ : BitVec 32) : sProp 𝕄 :=
  iprop(((sI).view.loc (thr d L) ↦{fullShare} t) ∗ ∃ f : Buf (Elt F) ((thr d L).loc cc2_scratch1),
    ⌜∀ y : S144x576.Idx, f y = if (y (0 : Fin 2)).val < k then AdjPure.rowAdj (F := F) t y else AdjPure.zero⌝
    ∗ (sB).view.loc (thr d L) ↦{fullShare} f)

theorem zero_trip (k : Fin k2_t1_loop.trips) (x : BitVec 32) :
    (inv1 d L k.val x : sProp 𝕄)
      ⊢ wp frame (wpE (defs₀ (F := F)) 𝒱₀ (thr d L) none) Set.univ
          (k2_t1_body L iW (Memref.isWhole_whole _) oW (Memref.isWhole_whole _) sI (Memref.isWhole_whole _) sB (Memref.isWhole_whole _) cc2_scoped0 cc2_scoped1 k x)
          fun x' => inv1 d L (k.val + 1) x' := by
  unfold k2_t1_body inv1
  iintro ⟨%f, %hf, H⟩
  sl_exec
  sl_step
  iexists _
  isplitr [H]
  rotate_left
  · iexact H
  ipureintro
  intro y hy
  have key : ∀ Ls, AdjPure.Filled (sB).view f k.val 576 (AdjPure.zero : F .f32) Ls → (sB).view.writes (Elt F) f Ls y = AdjPure.zero := by
    intro Ls hc
    have h := hc y
    simp only [Memref.view_whole, View.read_whole] at h
    refine h.trans ?_
    have h1 : (y (1 : Fin 2)).val < 576 := (y (1 : Fin 2)).isLt
    by_cases h0 : (y (0 : Fin 2)).val = k.val
    · rw [if_pos ⟨h0, h1⟩]
    · rw [if_neg fun h => h0 h.1]; exact hf y (by omega)
  refine key _ ?_
  repeat (refine AdjPure.filled_cons (fun _ => rfl) ClosedOff.eq rfl ?_)
  exact AdjPure.filled_nil _ _

theorem access_sB_set : ((sB).access (.whole S144x576)).set = Finset.univ := Memref.set_access_whole _

theorem pts_sB_access (f : Buf (Elt F) ((thr d L).loc cc2_scratch1)) :
    (((sB).access (.whole S144x576)).loc (thr d L) ↦[((sB).access (.whole S144x576)).set]{fullShare} f : sProp 𝕄)
      = (sB).view.loc (thr d L) ↦{fullShare} f := by
  rw [access_sB_set]

theorem mask_iff (k : Fin 16) : k2_pay3 (Shape.ofLane k) = 1 ↔ k.val < 7 := by
  revert k; decide

theorem row_val (t : Fin k2_t2_loop.trips) (x : S16.Idx) : (k2_pay4 t x).toNat = t.val := by
  have h : ∀ t : Fin k2_t2_loop.trips, (k2_pay4 t (ix1 0)).toNat = t.val := by decide +kernel
  exact h t

theorem scatter_trip (t : Buf (Elt F) ((thr d L).loc cc2_scratch0)) (ht : ∀ y : S144x16.Idx, (t y : BitVec 32).toNat < 576)
    (k : Fin k2_t2_loop.trips) (x : BitVec 32) :
    (inv2 d L t k.val x : sProp 𝕄)
      ⊢ wp frame (wpE (defs₀ (F := F)) 𝒱₀ (thr d L) none) Set.univ
          (k2_t2_body L iW (Memref.isWhole_whole _) oW (Memref.isWhole_whole _) sI (Memref.isWhole_whole _) sB (Memref.isWhole_whole _) cc2_scoped0 cc2_scoped1 k x)
          fun x' => inv2 d L t (k.val + 1) x' := by
  unfold k2_t2_body inv2
  iintro ⟨Hi, %f, %hf, H⟩
  sl_exec
  have hv : ∀ x, scatter_trip.sl.v40 d L t k x = t (ix2 ⟨k.val, k.isLt⟩ (x 0)) := by
    intro x
    unfold scatter_trip.sl.v40
    refine (shapeCast_dropUnit_apply (n := 1) ![16] _ _ x).trans ?_
    rw [View.readAt_apply]
    simp only [Memref.view_whole, View.read_whole]
    congr 1
    funext a
    apply Fin.ext
    rw [LoadRect.idx_apply]
    match a with
    | ⟨0, _⟩ => exact congrArg (· + 1 * 0) (congrFun (k2_off38_eq k) 0)
    | ⟨1, _⟩ =>
      refine (congrArg (· + 1 * (x 0).val) (congrFun (k2_off38_eq k) 1)).trans ?_
      show 0 + 1 * (x 0).val = (x 0).val
      omega
  have hchk : k2_chk1 (scatter_trip.sl.v40 d L t k) (k2_pay4 k) := by
    intro a x
    match a with
    | ⟨0, _⟩ => exact (row_val k x).trans_lt k.isLt
    | ⟨1, _⟩ => exact (congrArg BitVec.toNat (hv x)).trans_lt (ht _)
  rw [wp_assume_of _ _ _ _ hchk]
  ihave H' := (Entails.of_eq (pts_sB_access (F := F) d L _).symm) $$ H
  iapply (SparseCore.wp_vectorStoreIdx 𝒱₀ (thr d L) none Set.univ (base := sB)) $$ H'
  iintro H
  ihave H' := (Entails.of_eq (pts_sB_access (F := F) d L _)) $$ H
  sl_step
  isplitl [Hi]; · iexact Hi
  iexists _
  isplitr [H']
  rotate_left
  · iexact H'
  ipureintro
  intro y
  refine (congrFun (Memref.write_access_whole_univ (Elt F) cc2_scratch1 f _) y).trans ?_
  rw [Memref.read_access_whole]
  refine (AdjPure.scatter_apply (F := F) f (k2_pay4 k) (scatter_trip.sl.v40 d L t k) k2_pay2 k2_pay3 hchk k.val (row_val k) (fun _ => rfl) mask_iff y).trans ?_
  rw [hf y]
  unfold AdjPure.rowAdj
  by_cases h0 : (y (0 : Fin 2)).val = k.val
  · have hy : (⟨k.val, k.isLt⟩ : Fin 144) = y (0 : Fin 2) := Fin.ext h0.symm
    rw [if_pos (show (y (0 : Fin 2)).val < k.val + 1 by omega), if_neg (show ¬ (y (0 : Fin 2)).val < k.val by omega)]
    simp only [hv, h0, true_and]
    rw [hy]
  · rw [if_neg fun h => h0 h.1]
    by_cases h1 : (y (0 : Fin 2)).val < k.val
    · exact (if_pos h1).trans (if_pos (show (y (0 : Fin 2)).val < k.val + 1 by omega)).symm
    · exact (if_neg h1).trans (if_neg (show ¬ (y (0 : Fin 2)).val < k.val + 1 by omega)).symm

/-! ## The whole task -/

local notation "iR" => Memref.squeeze (Memref.slice iW (Rect.unit (s := S8x576x16) (k2_off1 L) S1x144x16.size (k2_off1_inb L)) (fun _ => rfl)) S144x16 squeezes_S1x144x16_S144x16
local notation "oR" => Memref.squeeze (Memref.slice oW (Rect.unit (s := S8x576x576) (k2_off39 L) S1x144x576.size (k2_off39_inb L)) (fun _ => rfl)) S144x576 squeezes_S1x144x576_S144x576

abbrev iLoc (d : Dev nD) : Loc nD τ sig := (SparseCore.T d).loc main_v5_1
abbrev oLoc (d : Dev nD) : Loc nD τ sig := (SparseCore.T d).loc main_v6

theorem set_iR : (iR).view.set = AdjPure.own 16 (wL2 L) := by
  show ((View.slice (iW).view (Rect.unit (s := S8x576x16) (k2_off1 L) S1x144x16.size (k2_off1_inb L))).reshape S144x16 squeezes_S1x144x16_S144x16.numel_eq).set = _
  exact (View.set_reshape _ _).trans ((View.set_slice_whole _ _).trans (AdjPure.unit_own (off1_eq L) _))

theorem set_oR : (oR).view.set = AdjPure.own 576 (wL2 L) := by
  show ((View.slice (oW).view (Rect.unit (s := S8x576x576) (k2_off39 L) S1x144x576.size (k2_off39_inb L))).reshape S144x576 squeezes_S1x144x576_S144x576.numel_eq).set = _
  exact (View.set_reshape _ _).trans ((View.set_slice_whole _ _).trans (AdjPure.unit_own (off39_eq L) _))

theorem emb_iR (r : Fin 144) (c : Fin 16) : (iR).view.emb (ix2 r c) = ix3 ⟨wL2 L / 4, by have := wL2_lt L; omega⟩ ⟨wL2 L % 4 * 144 + r.val, by omega⟩ c :=
  AdjPure.emb_own (off1_eq L) (k2_off1_inb L) squeezes_S1x144x16_S144x16.numel_eq r c (wL2_lt L)

theorem emb_oR (r : Fin 144) (c : Fin 576) : (oR).view.emb (ix2 r c) = ix3 ⟨wL2 L / 4, by have := wL2_lt L; omega⟩ ⟨wL2 L % 4 * 144 + r.val, by omega⟩ c :=
  AdjPure.emb_own (off39_eq L) (k2_off39_inb L) squeezes_S1x144x576_S144x576.numel_eq r c (wL2_lt L)

theorem pts_iR (t : Buf (Elt F) (iLoc d)) :
    ((iR).view.loc (thr d L) ↦[(iR).view.set]{fullShare} t : sProp 𝕄) = iLoc d ↦[AdjPure.own 16 (wL2 L)]{fullShare} t := by
  rw [set_iR]
theorem pts_oR (f : Buf (Elt F) (oLoc d)) :
    ((oR).view.loc (thr d L) ↦[(oR).view.set]{fullShare} f : sProp 𝕄) = oLoc d ↦[AdjPure.own 576 (wL2 L)]{fullShare} f := by
  rw [set_oR]

/-- The fetched rows are the tile's rows of the index array. -/
theorem local_val (t : Buf (Elt F) (iLoc d)) (r : Fin 144) (c : Fin 16) :
    (iR).view.read (Elt F) t (ix2 r c) = t (ix3 ⟨wL2 L / 4, by have := wL2_lt L; omega⟩ ⟨wL2 L % 4 * 144 + r.val, by omega⟩ c) :=
  ((View.read_apply (v := (iR).view) t (ix2 r c)).trans (cast_eq _ _)).trans (congrArg t (emb_iR L r c))

/-- The rows written out are the tile's rows of the adjacency. -/
theorem out_val (t : Buf (Elt F) (iLoc d)) (g : Buf (Elt F) (oLoc d)) (f : S144x576.Idx → F .f32)
    (hf : ∀ y, f y = AdjPure.rowAdj (F := F) ((iR).view.read (Elt F) t) y) :
    ∀ x ∈ (oR).view.set, View.write (Elt F) (oR).view g f Finset.univ x = AdjPure.adj (F := F) t x := by
  intro x hx
  obtain ⟨y, -, rfl⟩ := Finset.mem_map.mp hx
  refine (View.write_emb_of_mem (v := (oR).view) g f (Finset.mem_univ y)).trans ((cast_eq _ _).trans ?_)
  rw [hf y]
  have hy : y = ix2 (y (0 : Fin 2)) (y (1 : Fin 2)) := by
    funext a; match a with | 0 => rfl | 1 => rfl
  rw [hy]
  refine Eq.trans ?_ (congrArg (AdjPure.adj (F := F) t) (emb_oR L _ _)).symm
  refine if_congr (exists_congr fun k => ?_) rfl rfl
  exact (congrArg (fun z => BitVec.toNat (w := 32) z = (y (1 : Fin 2)).val) (local_val d L t (y (0 : Fin 2)) (k.castLE (by decide)))).to_iff

set_option maxHeartbeats 1000000 in
theorem body_run (O : CellTallies nD τ sig (HIx 2)) (W : Waits sig (HIx 2)) (t : Buf (Elt F) (iLoc d)) (g : Buf (Elt F) (oLoc d))
    (ht : ∀ y : S8x576x16.Idx, BitVec.toNat (w := 32) (t y) < 576)
    (f0 : Buf (Elt F) ((thr d L).loc cc2_scratch0)) (f1 : Buf (Elt F) ((thr d L).loc cc2_scratch1)) :
    (iprop(Transfers.MayWaits (thr d L) (none : HIx 2) O
        ∗ ((iR).view.loc (thr d L) ↦[(iR).view.set]{fullShare} t) ∗ ((oR).view.loc (thr d L) ↦[(oR).view.set]{fullShare} g)
        ∗ ((sI).view.loc (thr d L) ↦{fullShare} f0) ∗ ((sB).view.loc (thr d L) ↦{fullShare} f1)
        ∗ semVal (thr d L, SemLoc.dma cc2_scoped0.sem) 0 ∗ semVal (thr d L, SemLoc.dma cc2_scoped1.sem) 0
        ∗ owes (thr d L) O W) : sProp 𝕄)
      ⊢ wp frame (wpE (defs₀ (F := F)) 𝒱₀ (thr d L) none) Set.univ
          (cc2__sc_adj L iW (Memref.isWhole_whole _) oW (Memref.isWhole_whole _) sI (Memref.isWhole_whole _) sB (Memref.isWhole_whole _) cc2_scoped0 cc2_scoped1)
          fun _ => iprop(((iR).view.loc (thr d L) ↦[(iR).view.set]{fullShare} t) ∗ ((oR).view.loc (thr d L) ↦[(oR).view.set]{fullShare} AdjPure.adj (F := F) t)
            ∗ (∃ f, (sI).view.loc (thr d L) ↦{fullShare} f) ∗ (∃ f, (sB).view.loc (thr d L) ↦{fullShare} f)
            ∗ semVal (thr d L, SemLoc.dma cc2_scoped0.sem) 0 ∗ semVal (thr d L, SemLoc.dma cc2_scoped1.sem) 0
            ∗ ∃ W', ⌜∀ p ∈ W', p ∈ W ∨ p.2 = none⌝ ∗ owes (thr d L) O W') := by
  rw [cc2__sc_adj_eq_skeleton]; unfold cc2__sc_adj_skel
  iintro ⟨Hmw, Hi, Ho, HsI, HsB, Hs0, Hs1, HO⟩
  sl_exec
  sl_for (inv1 d L) $$ [HsB]
  case region =>
    intro k x
    exact zero_trip d L k x
  · unfold inv1
    iexists _
    isplitr
    rotate_left
    · iexact HsB
    ipureintro
    intro y hy
    exact absurd hy (Nat.not_lt_zero _)
  iintro %x1 HI
  unfold inv1
  icases HI with ⟨%f, %hf, HsB⟩
  have hw : View.write (Elt F) (sI).view f0 (body_run.sl.dma0 d L t) Finset.univ = (iR).view.read (Elt F) t := View.write_whole_univ _ _ _
  rw [hw]
  sl_for (inv2 d L ((iR).view.read (Elt F) t)) $$ [HsI HsB]
  case region =>
    intro k x
    refine scatter_trip d L _ (fun y => ?_) k x
    have hy : y = ix2 (y (0 : Fin 2)) (y (1 : Fin 2)) := by
      funext a; match a with | 0 => rfl | 1 => rfl
    rw [hy]
    exact (congrArg (BitVec.toNat (w := 32)) (local_val d L t _ _)).trans_lt (ht _)
  · unfold inv2
    isplitl [HsI]; · iexact HsI
    iexists _
    isplitr
    rotate_left
    · iexact HsB
    ipureintro
    intro y
    exact (hf y (y (0 : Fin 2)).isLt).trans (if_neg (Nat.not_lt_zero _)).symm
  iintro %x2 HI
  unfold inv2
  icases HI with ⟨HsI, %f2, %hf2, HsB⟩
  sl_exec
  sl_step
  have hfin : ∀ y : S144x576.Idx, f2 y = AdjPure.rowAdj (F := F) ((iR).view.read (Elt F) t) y :=
    fun y => (hf2 y).trans (if_pos (y (0 : Fin 2)).isLt)
  have hdma : body_run.sl.dma0_1 d L f2 = f2 := rfl
  have hout : ∀ x ∈ (oR).view.set, (oR).view.writes (Elt F) g [⟨Rect.whole S144x576, f2⟩] x = AdjPure.adj (F := F) t x :=
    fun x hx => (congrFun (View.write_univ_eq_writes_whole (oR).view g [] f2).symm x).trans (out_val d L t g f2 hfin x hx)
  ihave Ho' := (Entails.of_eq (pointsTo_congr hout)) $$ Ho
  isplitl [Hi]; · iexact Hi
  isplitl [Ho']; · iexact Ho'
  isplitl [HsI]; · iexists _; iexact HsI
  isplitl [HsB]; · iexists _; iexact HsB
  isplitl [Hs0]; · iexact Hs0
  isplitl [Hs1]; · iexact Hs1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Body

end Cert.Proof.WAdjTile
end
-- ==== Proof.WTc.lean ====
/-
  The TensorCore call of the whole kernel: the grid step's body run on its five staging buffers, what it leaves in the two
  results' blocks, and the call as a region of the program entered while the core still owes the start of the last call.
-/
module

public import proofs.«01_k».proof.Proof.WBase
public import Idealize.ShloMosaic.Lib.Pipeline.FrameBody
public import Idealize.ShloMosaic.Lib.Pipeline.RegionArrays
public import Idealize.ShloMosaic.Lib.Ring

@[expose] public section

set_option maxRecDepth 16384

noncomputable section

namespace Cert.Proof.WTc

open Cert.WholeIdeal Cert.WholeIdeal.Gen
open Cert.Proof.W

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 2) (Elt F) ℕ UU ℕ

/-! ## The layout of the call -/

abbrev semTab : Fin 1 → List (DmaSem sig) := fun _ => Pipeline.specSems spec1
theorem semsDistinct : ∀ p : Fin 1, (semTab p).Nodup := by decide
theorem semsDisjoint : ∀ p p' : Fin 1, p ≠ p' → (semTab p).Forall (· ∉ semTab p') := by decide
theorem cellOf_inj : Function.Injective (Pipeline.cellOf (nD := nD) (τ := τ) cfgs) :=
  Pipeline.cellOf_injective_of_table cfgs semTab (fun _ => rfl) semsDistinct semsDisjoint

theorem winFacts : Pipeline.WinFacts spec1 := by decide
theorem block_pos : ∀ w : Fin 5, 0 < (spec1 w).block.numel := by decide
theorem arr_whole (w : Fin 5) : (spec1 w).arr.IsWhole := by fin_cases w <;> exact Memref.isWhole_whole _
theorem stage_whole (w : Fin 5) : ∀ s : Fin (spec1 w).nbuf, ((spec1 w).stage s).IsWhole := by
  fin_cases w
  · exact fun s => hstage1_0 (s.cast nbuf1_0)
  · exact fun s => hstage1_1 (s.cast nbuf1_1)
  · exact fun s => hstage1_2 (s.cast nbuf1_2)
  · exact fun s => hstage1_3 (s.cast nbuf1_3)
  · exact fun s => hstage1_4 (s.cast nbuf1_4)
theorem launch : Pipeline.LaunchFacts (nD := nD) (τ := τ) cfgs 0 := ⟨cellOf_inj, winFacts, block_pos, arr_whole, stage_whole⟩

/-- The windows one by one. -/
theorem bigSep_W {M : Type} [URA M] (Φ : Fin 5 → sProp M) :
    bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ

/-! ## What the body leaves in the results' blocks -/

abbrev rX : Rect S1x576x768 := Rect.unit (s := S1x576x768) ![0, 0, 0] S1x576x768.size inb_S1x576x768_S1x576x768_0_0_0
abbrev rW : Rect S768x192 := Rect.unit (s := S768x192) ![0, 0] S768x192.size inb_S768x192_S768x192_0_0
abbrev rB : Rect S1x192 := Rect.unit (s := S1x192) ![0, 0] S1x192.size inb_S1x192_S1x192_0_0
abbrev rY : Rect S1x576x192 := Rect.unit (s := S1x576x192) ![0, 0, 0] S1x576x192.size inb_S1x576x192_S1x576x192_0_0_0
abbrev rI : Rect S1x576x16 := Rect.unit (s := S1x576x16) ![0, 0, 0] S1x576x16.size inb_S1x576x16_S1x576x16_0_0_0

/-- The first three of the seven selections' work: the distances with three columns struck out. -/
def work3 (x0 : Vec F S1x576x768 .f32) (x1 : Vec F S768x192 .f32) (x2 : Vec F S1x192 .f32) : FVec F S576x576 .f32 :=
  k1_pay16 (k1_pay4 x0 x1 x2) (iota .tc S576x576 32 [1] iota_S576x576_d1_w32) (k1_pay8 x0 x1 x2)
/-- The columns holding the row's least distance then, and a large word elsewhere. -/
def cand3 (x0 : Vec F S1x576x768 .f32) (x1 : Vec F S768x192 .f32) (x2 : Vec F S1x192 .f32) : IVec S576x576 32 :=
  k1_pay17 (k1_pay4 x0 x1 x2) (iota .tc S576x576 32 [1] iota_S576x576_d1_w32) (k1_pay8 x0 x1 x2)
/-- The first three lanes' words. -/
def lanes3 (x0 : Vec F S1x576x768 .f32) (x1 : Vec F S768x192 .f32) (x2 : Vec F S1x192 .f32) : IVec S576x16 32 :=
  k1_pay15 (k1_pay4 x0 x1 x2) (iota .tc S576x576 32 [1] iota_S576x576_d1_w32) (iota .tc S576x16 32 [1] iota_S576x16_d1_w32)
    k1_pay5 (k1_pay7 x0 x1 x2) (k1_pay8 x0 x1 x2) 0#32

/-- The embeddings of one image. -/
def blkY (x0 : Vec F S1x576x768 .f32) (x1 : Vec F S768x192 .f32) (x2 : Vec F S1x192 .f32) : Vec F S1x576x192 .f32 := k1_pay3 x0 x1 x2

/-- The neighbours' words of one image. -/
def blkI (x0 : Vec F S1x576x768 .f32) (x1 : Vec F S768x192 .f32) (x2 : Vec F S1x192 .f32) : Vec F S1x576x16 .i32 :=
  k1_pay1 (iota .tc S576x576 32 [1] iota_S576x576_d1_w32) (iota .tc S576x16 32 [1] iota_S576x16_d1_w32)
    (k1_pay25 (iota .tc S576x576 32 [1] iota_S576x576_d1_w32) (iota .tc S576x16 32 [1] iota_S576x16_d1_w32)
      (lanes3 x0 x1 x2) (work3 x0 x1 x2) (cand3 x0 x1 x2))
    (k1_pay26 (iota .tc S576x576 32 [1] iota_S576x576_d1_w32) (work3 x0 x1 x2) (cand3 x0 x1 x2))
    (k1_pay27 (iota .tc S576x576 32 [1] iota_S576x576_d1_w32) (work3 x0 x1 x2) (cand3 x0 x1 x2))

def outY (x0 : Vec F S1x576x768 .f32) (x1 : Vec F S768x192 .f32) (x2 : Vec F S1x192 .f32) : Vec F S1x576x192 .f32 :=
  View.canon [⟨rY, blkY (View.ld x0 rX) (View.ld x1 rW) (View.ld x2 rB)⟩]
def outI (x0 : Vec F S1x576x768 .f32) (x1 : Vec F S768x192 .f32) (x2 : Vec F S1x192 .f32) : Vec F S1x576x16 .i32 :=
  View.canon [⟨rI, blkI (View.ld x0 rX) (View.ld x1 rW) (View.ld x2 rB)⟩]

theorem cover_Y (p0 : Vec F S1x576x192 .f32) (y : S1x576x192.Idx) :
    ∃ pc ∈ ([⟨rY, p0⟩] : List (View.Piece (Elt F) S1x576x192 .f32)), y ∈ pc.1.set :=
  View.cover_of_tiled [⟨rY, p0⟩] S1x576x192.size (by rfl) y
theorem cover_I (p0 : Vec F S1x576x16 .i32) (y : S1x576x16.Idx) :
    ∃ pc ∈ ([⟨rI, p0⟩] : List (View.Piece (Elt F) S1x576x16 .i32)), y ∈ pc.1.set :=
  View.cover_of_tiled [⟨rI, p0⟩] S1x576x16.size (by rfl) y

/-! ## The body -/

set_option maxHeartbeats 1000000 in
/-- From its three blocks held at `x0`, `x1`, `x2` the body returns with the results' blocks at `outY` and `outI` of them. -/
theorem body_run (c : Dev nD) (i : grid1.Coords) (a1 : Memref sig .tc .vmem S1x576x768 .f32) (h1 : a1.IsWhole)
    (a2 : Memref sig .tc .vmem S768x192 .f32) (h2 : a2.IsWhole) (a3 : Memref sig .tc .vmem S1x192 .f32) (h3 : a3.IsWhole)
    (a4 : Memref sig .tc .vmem S1x576x192 .f32) (h4 : a4.IsWhole) (a5 : Memref sig .tc .vmem S1x576x16 .i32) (h5 : a5.IsWhole)
    (x0 : Vec F S1x576x768 .f32) (x1 : Vec F S768x192 .f32) (x2 : Vec F S1x192 .f32) (Q : PUnit → sProp 𝕄) :
    (iprop(owns (c : Thread nD τ) a1 fullShare x0 ∗ owns (c : Thread nD τ) a2 fullShare x1 ∗ owns (c : Thread nD τ) a3 fullShare x2
        ∗ (∃ d, owns (c : Thread nD τ) a4 fullShare d) ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare (outY x0 x1 x2) ∗ owns (c : Thread nD τ) a5 fullShare (outI x0 x1 x2)) -∗ Q ⟨⟩)) : sProp 𝕄)
      ⊢ wp frame (wpE (defs₀ (F := F)) 𝒱₀ (c : Thread nD τ) none) Set.univ (cc1__tc_body i a1 h1 a2 h2 a3 h3 a4 h4 a5 h5) Q := by
  simp only [cc1__tc_body_eq_skeleton]; unfold cc1__tc_body_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_Y _)).trans ?_
    rfl
  iexists _; isplitr
  swap; · iexact H4
  ipureintro
  refine (View.read_writes_eq_canon _ _ _ (cover_I _)).trans ?_
  rfl

/-! ## The region -/

/-- Every buffer of the core when the region is entered. -/
abbrev Vals (F : FTy → Type) : Type := (c : Dev nD) → (b : Ref sig .tc) → Buf (Elt F) ((c : Thread nD τ).loc b)

variable (V : Vals F)

/-- The block a window reads at a grid step. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev Λ1 : Labels := Pipeline.Sig Λ₀ (Fin 1) fun p => (pcfgs (F := F) p).Adm
abbrev K : SparseCore.Cfg τ sig (Λ1 (F := F)) 2 := sc (F := F)

def dat (c : Dev nD) : Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => outY (iblk V c 0 t) (iblk V c 1 t) (iblk V c 2 t)
    | ⟨4, _⟩ => outI (iblk V c 0 t) (iblk V c 1 t) (iblk V c 2 t)
  Φ _ := Pipeline.scopedRest spec1 c
  q _ := fullShare
  owed _ := (K (F := F)).Otc c 1
  recorded _ := {p | (K (F := F)).lev (T c, p.1) p.2 ≤ 8}

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = outY (iblk V c 0 t) (iblk V c 1 t) (iblk V c 2 t) := by dsimp only [dat]
theorem after_4 (c : Dev nD) (t : Fin cfg1.N) : (dat V c).after 4 t = outI (iblk V c 0 t) (iblk V c 1 t) (iblk V c 2 t) := by dsimp only [dat]

theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

abbrev st_0 (t : Fin cfg1.N) := (cfg1.win 0).stage (cfg1.slots t 0)
abbrev st_1 (t : Fin cfg1.N) := (cfg1.win 1).stage (cfg1.slots t 1)
abbrev st_2 (t : Fin cfg1.N) := (cfg1.win 2).stage (cfg1.slots t 2)
abbrev st_3 (t : Fin cfg1.N) := (cfg1.win 3).stage (cfg1.slots t 3)
abbrev st_4 (t : Fin cfg1.N) := (cfg1.win 4).stage (cfg1.slots t 4)

/-- The body at a grid step, as the pipeline calls it. -/
abbrev bodyAt (t : Fin cfg1.N) : Prog (TpuEff nD τ sig (Elt F) Λ₀ .tc) PUnit :=
  cc1__tc_body (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))

def bodyPre (c : Dev nD) (t : Fin cfg1.N) : sProp 𝕄 :=
  iprop((dat V c).Φ t.castSucc ∗ (dat V c).owesAt none t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d))
    ∗ (∃ d, owns (c : Thread nD τ) (st_3 t) fullShare ((dat V c).before 3 t d))
    ∗ (∃ d, owns (c : Thread nD τ) (st_4 t) fullShare ((dat V c).before 4 t d)))

def bodyPost (c : Dev nD) (t : Fin cfg1.N) : sProp 𝕄 :=
  iprop((dat V c).Φ t.succ ∗ (dat V c).owesAt none t.succ
    ∗ owns (c : Thread nD τ) (st_0 t) fullShare ((dat V c).after 0 t)
    ∗ owns (c : Thread nD τ) (st_1 t) fullShare ((dat V c).after 1 t)
    ∗ owns (c : Thread nD τ) (st_2 t) fullShare ((dat V c).after 2 t)
    ∗ owns (c : Thread nD τ) (st_3 t) fullShare ((dat V c).after 3 t)
    ∗ owns (c : Thread nD τ) (st_4 t) fullShare ((dat V c).after 4 t))

theorem step_run (c : Dev nD) (t : Fin cfg1.N) :
    bodyPre V c t ⊢ wp frame (wpE (defs₀ (F := F)) 𝒱₀ (c : Thread nD τ) none) Set.univ (bodyAt t) (fun _ => bodyPost V c t) := by
  unfold bodyPre bodyPost bodyAt
  simp only [before_0, before_1, before_2]
  rw [show (dat V c).Φ t.succ = (dat V c).Φ t.castSucc from rfl,
    show (dat V c).owesAt none t.succ = (dat V c).owesAt none t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c (grid1.coords t) _ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg1.N) : defs₀ (F := F) .tc cfg1.body (cfg1.bodyArgs t (cfg1.slots t)) = bodyAt t := rfl

theorem body_obligation (c : Dev nD) : BodyObligation (dat (F := F) V c) (defs₀ (F := F)) 𝒱₀ none Set.univ := fun t => by
  rw [bigSep_W, bigSep_W, defs₀_row]
  exact triple_restated (step_run V c t) rfl .rfl fun _ => .rfl

/-- The one choice of tables: none. -/
abbrev adm (p : Fin 1) : (pcfgs (F := F) p).Adm := (cfgs p).toPCfg_adm
def pdats (p : Fin 1) (c : Dev nD) : Dat τ (Elt F) (HIx 2) ℕ UU ℕ (Pipeline.pin (pcfgs (F := F)) adm p) c := dat V c

omit [FloatOps F] [Named F] in
/-- What the core owes of later calls is never owed at the transfers' own place. -/
theorem Otc_none (c : Dev nD) (n : ℕ) (g : GSem nD τ sig) : (K (F := F)).Otc c n g (none : HIx 2) = 0 := by
  by_contra h
  have h1 := (K (F := F)).lev_of_Otc_pos (Nat.pos_of_ne_zero h)
  have h2 : (K (F := F)).lev g (none : HIx 2) = 0 := rfl
  omega

/-- What the core holds of its debts around the region. -/
abbrev debt (c : Dev nD) : sProp 𝕄 :=
  iprop(∃ W, ⌜(K (F := F)).WBelow (T c) W 8⌝ ∗ owes (T c) ((K (F := F)).Otc c 1) W)

set_option backward.isDefEq.respectTransparency.types false in
def reg : Pipeline.RegionSeg (pcfgs (F := F)) adm (pdats V) none defs₀ 𝒱₀ (K (F := F)).L (K (F := F)).lev 0 where
  win := winFacts.to₀
  block_pos := block_pos
  stage_whole := stage_whole
  K := PEmpty
  osem k := k.elim
  ho := Pipeline.OwnSemFacts.none _
  hbody c := (body_obligation V c).loose
  hwaits c := Pipeline.cellsWaits_intro (Pipeline.pin (pcfgs (F := F)) adm) (pdats V) none 0 c fun w s t =>
    (K (F := F)).mayWait_none (thr := T c) _ (Otc_none c 1)
  pre c := iprop((dat V c).arrays ((dat V c).arrAt · 0) ∗ debt c)
  post c := iprop((dat V c).arrays ((dat V c).arrAt · cfg1.N) ∗ debt c)
  X _ := BI.emp
  Y _ := BI.emp
  Z _ := BI.emp
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · unfold Pipeline.Dat.owesAt Pipeline.owesWithin Pipeline.Dat.bound
      iexists W; isplitr
      · ipureintro; exact fun p hp => Or.inl (hW p hp)
      · iexact HO
    isplitr <;> iempintro
  hin c := by
    rw [show (pdats V 0 c).Φ 0 = Pipeline.scopedRest spec1 c from rfl]
    iintro ⟨-, -, Hr⟩; iexact Hr
  hout c := by
    rw [Pipeline.ownSems0_none, show (pdats V 0 c).Φ (Fin.last _) = Pipeline.scopedRest spec1 c from rfl]
    iintro Hr
    isplitr; · iempintro
    isplitr; · iempintro
    iexact Hr
  hexit c := by
    iintro ⟨Ha, HO, -, -⟩
    imodintro
    isplitl [Ha]; · iexact Ha
    unfold Pipeline.Dat.owesAt Pipeline.owesWithin Pipeline.Dat.bound
    icases HO with ⟨%W, %hW, HO⟩
    iexists W; isplitr
    · ipureintro
      intro p hp
      rcases hW hp with h | ⟨w, s, h⟩
      · exact h
      · rw [h]; exact Nat.zero_le _
    · iexact HO

/-- The arrays of the call, one by one. -/
theorem arrays_pts (c : Dev nD) (G : (w : Fin 5) → Buf (Elt F) ((cfg1.win w).arr.view.loc (c.tc : Thread nD τ))) :
    ((dat V c).arrays G : sProp 𝕄) = iprop(((SparseCore.T c : Thread nD τ).loc main_v1 ↦{fullShare} G 0) ∗ ((SparseCore.T c : Thread nD τ).loc main_v3 ↦{fullShare} G 1)
      ∗ ((SparseCore.T c : Thread nD τ).loc main_v4 ↦{fullShare} G 2) ∗ ((SparseCore.T c : Thread nD τ).loc main_v5_0 ↦{fullShare} G 3) ∗ (SparseCore.T c : Thread nD τ).loc main_v5_1 ↦{fullShare} G 4) := by
  refine (Pipeline.arrays_eq (Pipeline.pin (pcfgs (F := F)) adm) (pdats V) 0 c arr_whole ((dat V c).share_full fun _ => rfl) G).trans ?_
  exact bigSep_W _

end Cert.Proof.WTc
end
-- ==== Proof.WTiles.lean ====
/-
  The two SparseCore calls of the whole kernel at their launch: what each tile is dealt of the arrays and hands back, each
  tile's task from that, and the launch theorem's obligations. The arrays' contents are parameters here: the image rows
  `tx`, the patch array before its call `tp`, the index array `ti`, the result before its call `tq`.
-/
module

public import proofs.«01_k».proof.Proof.PatchBody
public import proofs.«01_k».proof.Proof.WAdjTile
public import proofs.«01_k».proof.Proof.WTc
public import Idealize.ShloMosaic.Lib.ShareLeaves

@[expose] public section

noncomputable section

namespace Cert.Proof.WTiles

open Cert.WholeIdeal Cert.WholeIdeal.Gen
open Cert.Proof.W
open Cert.Proof.PatchBody (xLoc pLoc pS)
open Cert.Proof.WAdjTile (iLoc oLoc)
open Cert.Proof.WTc (K)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ
local notation "xW" => (Memref.whole Cert.WholeIdeal.main_v0_scv : Memref Cert.WholeIdeal.sig Kind.scVector Space.hbm Cert.WholeIdeal.S9216x384 EltTy.f32)
local notation "pW" => (Memref.whole Cert.WholeIdeal.main_v1_scv : Memref Cert.WholeIdeal.sig Kind.scVector Space.hbm Cert.WholeIdeal.S8x576x768 EltTy.f32)
local notation "sX" => (Memref.whole Cert.WholeIdeal.cc0_scratch0 : Memref Cert.WholeIdeal.sig Kind.scVector Space.vmem Cert.WholeIdeal.S144x384 EltTy.f32)
local notation "sP" => (Memref.whole Cert.WholeIdeal.cc0_scratch1 : Memref Cert.WholeIdeal.sig Kind.scVector Space.vmem Cert.WholeIdeal.S72x768 EltTy.f32)
local notation "iW" => (Memref.whole Cert.WholeIdeal.main_v5_1_scv : Memref Cert.WholeIdeal.sig Kind.scVector Space.hbm Cert.WholeIdeal.S8x576x16 EltTy.i32)
local notation "oW" => (Memref.whole Cert.WholeIdeal.main_v6_scv : Memref Cert.WholeIdeal.sig Kind.scVector Space.hbm Cert.WholeIdeal.S8x576x576 EltTy.f32)
local notation "sI" => (Memref.whole Cert.WholeIdeal.cc2_scratch0 : Memref Cert.WholeIdeal.sig Kind.scVector Space.vmem Cert.WholeIdeal.S144x16 EltTy.i32)
local notation "sB" => (Memref.whole Cert.WholeIdeal.cc2_scratch1 : Memref Cert.WholeIdeal.sig Kind.scVector Space.vmem Cert.WholeIdeal.S144x576 EltTy.f32)

/-! ## The program as the launch theorem sees it -/

abbrev D [FloatOps F] [Named F] : Defs nD τ sig (Elt F) (WTc.Λ1 (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 2) (Elt F) ℕ UU ℕ) := embL

variable [FloatOps F] [Named F]
variable (tx : (d : Dev nD) → Buf (Elt F) (xLoc d)) (tp : (d : Dev nD) → Buf (Elt F) (pLoc d))
variable (ti : (d : Dev nD) → Buf (Elt F) (iLoc d)) (tq : (d : Dev nD) → Buf (Elt F) (oLoc d))

/-! ## What the tiles are dealt -/

/-- Tile `w`'s two slabs of the patch array, at `g`. -/
def pPts (d : Dev nD) (w : ℕ) (g : Buf (Elt F) (pLoc d)) : sProp 𝕄 :=
  bigSep Finset.univ fun h : Fin 2 => pLoc d ↦[PatchPure.own72 768 (2 * w + h.val)]{fullShare} g

/-- The tiles numbered through. -/
def tileIx : Fin 2 × Fin 16 ≃ Fin (2 ^ 5) := (finProdFinEquiv (m := 2) (n := 16)).trans (finCongr (by norm_num))

/-- The share of the image rows a tile reads under. -/
def shr (c : Fin 2) (i : Fin 16) : PosShare TreeShare := ShareLeaves.leaf 5 fullShare (tileIx (c, i))

/-- Tile `w`'s rows of the index array and of the result. -/
def tilePts (d : Dev nD) (w : ℕ) (g : Buf (Elt F) (oLoc d)) : sProp 𝕄 :=
  iprop((iLoc d ↦[AdjPure.own 16 w]{fullShare} ti d) ∗ oLoc d ↦[AdjPure.own 576 w]{fullShare} g)

instance pPts_storable (d : Dev nD) (w : ℕ) (g : Buf (Elt F) (pLoc d)) : BI.Storable (upEmb : UEmb _ 𝕄) (pPts d w g) := by
  unfold pPts; infer_instance
instance tilePts_storable (d : Dev nD) (w : ℕ) (g : Buf (Elt F) (oLoc d)) : BI.Storable (upEmb : UEmb _ 𝕄) (tilePts ti d w g) := by
  unfold tilePts; infer_instance

/-- What a tile of the first call is dealt. -/
def go0 (d : Dev nD) (c : Fin 2) (i : Fin 16) : sProp 𝕄 :=
  iprop((xLoc d ↦{shr c i} tx d) ∗ pPts d (i.val * 2 + c.val) (tp d))

instance go0_storable (d : Dev nD) (c : Fin 2) (i : Fin 16) : BI.Storable (upEmb : UEmb _ 𝕄) (go0 tx tp d c i) := by
  unfold go0; infer_instance

abbrev px (d : Dev nD) : Buf (Elt F) (pLoc d) := PatchPure.patches (tx d)
abbrev res (d : Dev nD) : Buf (Elt F) (oLoc d) := AdjPure.adj (F := F) (ti d)

def goP (q : Fin 2) (d : Dev nD) (c : Fin 2) (i : Fin 16) : sProp 𝕄 :=
  if q = 0 then go0 tx tp d c i else tilePts ti d (i.val * 2 + c.val) (tq d)
def tdP (q : Fin 2) (d : Dev nD) (c : Fin 2) (i : Fin 16) : sProp 𝕄 :=
  if q = 0 then pPts d (i.val * 2 + c.val) (px tx d) else tilePts ti d (i.val * 2 + c.val) (res ti d)

instance goP_storable (q : Fin 2) (d : Dev nD) (c : Fin 2) (i : Fin 16) : BI.Storable (upEmb : UEmb _ 𝕄) (goP tx tp ti tq q d c i) := by
  unfold goP; split <;> infer_instance
instance tdP_storable (q : Fin 2) (d : Dev nD) (c : Fin 2) (i : Fin 16) : BI.Storable (upEmb : UEmb _ 𝕄) (tdP tx ti q d c i) := by
  unfold tdP; split <;> infer_instance

def stP (q : Fin 2) (d : Dev nD) (c : Fin 2) : sProp 𝕄 := bigSep Finset.univ fun i : Fin 16 => goP tx tp ti tq q d c i
def dnP (q : Fin 2) (d : Dev nD) (c : Fin 2) : sProp 𝕄 := bigSep Finset.univ fun i : Fin 16 => tdP tx ti q d c i

instance stP_storable (q : Fin 2) (d : Dev nD) (c : Fin 2) : BI.Storable (upEmb : UEmb _ 𝕄) (stP tx tp ti tq q d c) := by
  unfold stP; infer_instance
instance dnP_storable (q : Fin 2) (d : Dev nD) (c : Fin 2) : BI.Storable (upEmb : UEmb _ 𝕄) (dnP tx ti q d c) := by
  unfold dnP; infer_instance

omit [FloatOps F] [Named F] in
theorem nCore_eq (q : Fin 2) : (K (F := F)).nCore q = 2 := by fin_cases q <;> rfl
omit [FloatOps F] [Named F] in
theorem nSub_eq (q : Fin 2) : (K (F := F)).nSub q = 16 := by fin_cases q <;> rfl

def P : (K (F := F)).Pay (nD := nD) (Val := Elt F) (Name := ℕ) (U := UU) where
  st := fun q d c => stP tx tp ti tq q d (c.cast (nCore_eq q))
  dn := fun q d c => dnP tx ti q d (c.cast (nCore_eq q))
  go := fun q d c i => goP tx tp ti tq q d (c.cast (nCore_eq q)) (i.cast (nSub_eq q))
  td := fun q d c i => tdP tx ti q d (c.cast (nCore_eq q)) (i.cast (nSub_eq q))
  x := fun _ _ => iprop(emp)

instance P_storable : (P (F := F) tx tp ti tq).IsStorable where
  st _ d c := by unfold P; infer_instance
  dn _ d c := by unfold P; infer_instance
  go _ _ _ _ := by unfold P; infer_instance
  td _ _ _ _ := by unfold P; infer_instance

omit [FloatOps F] [Named F] in
/-- The image rows whole, as one share a tile. -/
theorem xPts_tiles (d : Dev nD) (f : Buf (Elt F) (xLoc d)) :
    (xLoc d ↦{fullShare} f : sProp 𝕄)
      = bigSep Finset.univ fun c : Fin 2 => bigSep Finset.univ fun i : Fin 16 => xLoc d ↦{shr c i} f := by
  rw [← SparseCore.bigSep_product Finset.univ Finset.univ (fun p : Fin 2 × Fin 16 => (xLoc d ↦{shr p.1 p.2} f : sProp 𝕄)),
    Finset.univ_product_univ]
  refine (ShareLeaves.pointsTo_leaves (Finset.univ : Finset (Idx (xLoc d))) f 5 fullShare).trans ?_
  exact bigSep_univ_equiv tileIx _

omit [FloatOps F] [Named F] in
/-- The patch array whole, as the tiles' slabs. -/
theorem pPts_tiles (d : Dev nD) (f : Buf (Elt F) (pLoc d)) :
    (pLoc d ↦{fullShare} f : sProp 𝕄)
      = bigSep Finset.univ fun c : Fin 2 => bigSep Finset.univ fun i : Fin 16 => pPts d (i.val * 2 + c.val) f := by
  unfold pPts
  rw [← SparseCore.bigSep_product Finset.univ Finset.univ (fun p : Fin 2 × Fin 16 => (bigSep Finset.univ fun h : Fin 2 => pLoc d ↦[PatchPure.own72 768 (2 * (p.2.val * 2 + p.1.val) + h.val)]{fullShare} f : sProp 𝕄)),
    ← SparseCore.bigSep_product (Finset.univ ×ˢ Finset.univ) Finset.univ (fun p : (Fin 2 × Fin 16) × Fin 2 => (pLoc d ↦[PatchPure.own72 768 (2 * (p.1.2.val * 2 + p.1.1.val) + p.2.val)]{fullShare} f : sProp 𝕄)),
    Finset.univ_product_univ, Finset.univ_product_univ,
    ← pointsTo_biUnion Finset.univ (ℓ := pLoc d) (fun p : (Fin 2 × Fin 16) × Fin 2 => PatchPure.own72 768 (2 * (p.1.2.val * 2 + p.1.1.val) + p.2.val)) (PatchPure.own72_pairwise 768), PatchPure.own72_cover]
  try rfl

omit [FloatOps F] [Named F] in
theorem iPts_tiles (d : Dev nD) (f : Buf (Elt F) (iLoc d)) :
    (iLoc d ↦{fullShare} f : sProp 𝕄)
      = bigSep Finset.univ fun c : Fin 2 => bigSep Finset.univ fun i : Fin 16 => iLoc d ↦[AdjPure.own 16 (i.val * 2 + c.val)]{fullShare} f := by
  rw [← SparseCore.bigSep_product Finset.univ Finset.univ (fun p : Fin 2 × Fin 16 => (iLoc d ↦[AdjPure.own 16 (p.2.val * 2 + p.1.val)]{fullShare} f : sProp 𝕄)),
    Finset.univ_product_univ,
    ← pointsTo_biUnion Finset.univ (ℓ := iLoc d) (fun p : Fin 2 × Fin 16 => AdjPure.own 16 (p.2.val * 2 + p.1.val)) (AdjPure.own_pairwise 16), AdjPure.own_cover]
  try rfl
omit [FloatOps F] [Named F] in
theorem oPts_tiles (d : Dev nD) (f : Buf (Elt F) (oLoc d)) :
    (oLoc d ↦{fullShare} f : sProp 𝕄)
      = bigSep Finset.univ fun c : Fin 2 => bigSep Finset.univ fun i : Fin 16 => oLoc d ↦[AdjPure.own 576 (i.val * 2 + c.val)]{fullShare} f := by
  rw [← SparseCore.bigSep_product Finset.univ Finset.univ (fun p : Fin 2 × Fin 16 => (oLoc d ↦[AdjPure.own 576 (p.2.val * 2 + p.1.val)]{fullShare} f : sProp 𝕄)),
    Finset.univ_product_univ,
    ← pointsTo_biUnion Finset.univ (ℓ := oLoc d) (fun p : Fin 2 × Fin 16 => AdjPure.own 576 (p.2.val * 2 + p.1.val)) (AdjPure.own_pairwise 576), AdjPure.own_cover]
  try rfl

/-- All the tiles' rows of the last call are its two arrays whole. -/
theorem cores_eq (d : Dev nD) (g : Buf (Elt F) (oLoc d)) :
    (bigSep Finset.univ fun c : Fin 2 => bigSep Finset.univ fun i : Fin 16 => tilePts ti d (i.val * 2 + c.val) g) = iprop((iLoc d ↦{fullShare} ti d) ∗ oLoc d ↦{fullShare} g) := by
  unfold tilePts
  rw [iPts_tiles, oPts_tiles, ← bigSep_sep']
  exact bigSep_congr fun c _ => bigSep_sep' _ _ _

/-- What the first call takes and hands back. -/
theorem st0_eq (d : Dev nD) : (bigSep Finset.univ fun c : Fin ((K (F := F)).nCore 0) => (P tx tp ti tq).st 0 d c)
    = iprop((xLoc d ↦{fullShare} tx d) ∗ pLoc d ↦{fullShare} tp d) := by
  rw [xPts_tiles, pPts_tiles, ← bigSep_sep']
  refine bigSep_congr (Φ := fun c : Fin 2 => stP tx tp ti tq 0 d c) fun c _ => ?_
  exact bigSep_sep' Finset.univ (fun i : Fin 16 => (xLoc d ↦{shr c i} tx d : sProp 𝕄)) (fun i => pPts d (i.val * 2 + c.val) (tp d))
theorem dn0_eq (d : Dev nD) : (bigSep Finset.univ fun c : Fin ((K (F := F)).nCore 0) => (P tx tp ti tq).dn 0 d c)
    = (pLoc d ↦{fullShare} px tx d) := (pPts_tiles d _).symm
/-- What the last call takes and hands back. -/
theorem st1_eq (d : Dev nD) : (bigSep Finset.univ fun c : Fin ((K (F := F)).nCore 1) => (P tx tp ti tq).st 1 d c)
    = iprop((iLoc d ↦{fullShare} ti d) ∗ oLoc d ↦{fullShare} tq d) := cores_eq ti d _
theorem dn1_eq (d : Dev nD) : (bigSep Finset.univ fun c : Fin ((K (F := F)).nCore 1) => (P tx tp ti tq).dn 1 d c)
    = iprop((iLoc d ↦{fullShare} ti d) ∗ oLoc d ↦{fullShare} res ti d) := cores_eq ti d _

/-! ## A tile's own counters and buffers -/

/-- A thread's transfers' cells. -/
def cellEmb (thr : Thread nD τ) : DmaSem sig ↪ GSem nD τ sig :=
  ⟨fun s => (thr, SemLoc.dma s), fun _ _ h => SemLoc.dma.inj (Prod.ext_iff.mp h).2⟩

omit [FloatOps F] [Named F] in
/-- A thread's own counters, some of its transfers' first. -/
theorem ownSems0_of (thr : Thread nD τ) (X : Finset (DmaSem sig)) (hX : ∀ s ∈ X, (SemLoc.dma s : SemLoc sig).isScoped thr.2.kind = true) :
    (ownSems0 thr : sProp 𝕄) = iprop((bigSep X fun s => semVal (thr, SemLoc.dma s) 0)
      ∗ bigSep (ownCells thr \ X.map (cellEmb thr)) fun g => semVal g 0) := by
  unfold SparseCore.Cfg.ownSems0
  refine (bigSep_sdiff_split (t := X.map (cellEmb thr)) fun g hg => ?_).trans ?_
  · obtain ⟨s, hs, rfl⟩ := Finset.mem_map.mp hg
    exact mem_ownCells.mpr ⟨rfl, hX s hs⟩
  · rw [SparseCore.bigSep_map]; rfl

section Tile0

variable (d : Dev nD) (L : grid0.Coords)

abbrev sems0 : Finset (DmaSem sig) := {cc0_scoped0.sem, cc0_scoped1.sem, cc0_scoped2.sem, cc0_scoped3.sem, cc0_scoped4.sem, cc0_scoped5.sem, cc0_scoped6.sem, cc0_scoped7.sem}

omit [FloatOps F] [Named F] in
theorem sems0_eq (Φ : DmaSem sig → sProp 𝕄) : bigSep sems0 Φ = iprop(Φ cc0_scoped0.sem ∗ Φ cc0_scoped1.sem ∗ Φ cc0_scoped2.sem ∗ Φ cc0_scoped3.sem
    ∗ Φ cc0_scoped4.sem ∗ Φ cc0_scoped5.sem ∗ Φ cc0_scoped6.sem ∗ Φ cc0_scoped7.sem) := by
  unfold sems0
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [Named F] in
theorem sems0_scoped : ∀ s ∈ sems0, (SemLoc.dma s : SemLoc sig).isScoped .scVector = true := by decide

omit [FloatOps F] [Named F] in
theorem ownBufs0_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem pPts_eq (g : Buf (Elt F) (pLoc d)) : (pPts d (wL L) g : sProp 𝕄)
    = iprop(((pS L 0).view.loc (PatchTile.thr d L) ↦[(pS L 0).view.set]{fullShare} g) ∗ ((pS L 1).view.loc (PatchTile.thr d L) ↦[(pS L 1).view.set]{fullShare} g)) := by
  unfold pPts
  rw [PatchBody.pts_pS, PatchBody.pts_pS]
  exact Ring.bigSep_fin2 _

/-- A tile's task of the first call, from what the launch deals it. -/
theorem tile_body0 (q : PosShare TreeShare) (O : CellTallies nD τ sig (HIx 2)) (W : Waits sig (HIx 2)) (hO : ∀ g, O g none = 0) :
    (iprop(levAts (K (F := F)).L (K (F := F)).lev ∗ emp ∗ ((xLoc d ↦{q} tx d) ∗ pPts d (wL L) (tp d))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__sc_im2col L xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7)
          fun _ => iprop(pPts d (wL L) (px tx d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L),
    ownSems0_of (V d (cV L) (jV L)) sems0 sems0_scoped, sems0_eq, ownBufs0_V, pPts_eq, pPts_eq]
  iintro ⟨#Hlv, -, ⟨Hx, Hp0, Hp1⟩, ⟨⟨%f0, HsX⟩, ⟨%f1, HsP⟩, Hbufs⟩, ⟨⟨Hs0, Hs1, Hs2, Hs3, Hs4, Hs5, Hs6, Hs7⟩, Hsems⟩, HO⟩
  ihave Hmw := ((K (F := F)).mayWaits_none (thr := V d (cV L) (jV L)) hO) $$ Hlv
  iapply (wp_wand_r Idealize.ShloMosaic.frame (wpE (defs₀ (F := F)) 𝒱₀ (V d (cV L) (jV L)) none) Set.univ)
  isplitl [Hmw Hx Hp0 Hp1 HsX HsP Hs0 Hs1 Hs2 Hs3 Hs4 Hs5 Hs6 Hs7 HO]
  · iapply (PatchBody.body_run d L O W q (tx d) (tp d) f0 f1)
    isplitl [Hmw]; · iexact Hmw
    isplitl [Hx]; · iexact Hx
    isplitl [Hp0]; · iexact Hp0
    isplitl [Hp1]; · iexact Hp1
    isplitl [HsX]; · iexact HsX
    isplitl [HsP]; · iexact HsP
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact HO
  iintro %_ ⟨-, Hp0, Hp1, HsX, HsP, Hs0, Hs1, Hs2, Hs3, Hs4, Hs5, Hs6, Hs7, HO⟩
  isplitl [Hp0 Hp1]
  · isplitl [Hp0]; · iexact Hp0
    iexact Hp1
  isplitl [HsX HsP Hbufs]
  · isplitl [HsX]; · iexact HsX
    isplitl [HsP]; · iexact HsP
    iexact Hbufs
  isplitl [Hs0 Hs1 Hs2 Hs3 Hs4 Hs5 Hs6 Hs7 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      iexact Hs7
    iexact Hsems
  iexact HO

end Tile0

section Tile2

variable (d : Dev nD) (L : grid2.Coords)

abbrev sems2 : Finset (DmaSem sig) := {cc2_scoped0.sem, cc2_scoped1.sem}

omit [FloatOps F] [Named F] in
theorem sems2_eq (Φ : DmaSem sig → sProp 𝕄) : bigSep sems2 Φ = iprop(Φ cc2_scoped0.sem ∗ Φ cc2_scoped1.sem) := by
  unfold sems2
  rw [SparseCore.bigSep_insert' (by decide), bigSep_singleton]

omit [FloatOps F] [Named F] in
theorem sems2_scoped : ∀ s ∈ sems2, (SemLoc.dma s : SemLoc sig).isScoped .scVector = true := by decide

omit [FloatOps F] [Named F] in
theorem ownBufs2_V :
    (ownBufs (V d (cV2 L) (jV2 L)) : sProp 𝕄)
      = iprop((∃ f, (V d (cV2 L) (jV2 L)).loc cc2_scratch0 ↦{fullShare} f) ∗ (∃ f, (V d (cV2 L) (jV2 L)).loc cc2_scratch1 ↦{fullShare} f)
          ∗ bigSep (((ownRefs (τ := τ) (.scVector (cV2 L) (jV2 L))).erase ((Proc.scVector (cV2 L) (jV2 L)).devRef cc2_scratch0)).erase
              ((Proc.scVector (cV2 L) (jV2 L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV2 L) (jV2 L))
    (b := (Proc.scVector (cV2 L) (jV2 L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV2 L) (jV2 L)) (b := (Proc.scVector (cV2 L) (jV2 L)).devRef cc2_scratch1) rfl⟩)]

/-- A tile's task of the last call, from what the launch deals it. -/
theorem tile_body2 (hpre : ∀ y : S8x576x16.Idx, BitVec.toNat (w := 32) (ti d y) < 576) (O : CellTallies nD τ sig (HIx 2)) (W : Waits sig (HIx 2)) (hO : ∀ g, O g none = 0) :
    (iprop(levAts (K (F := F)).L (K (F := F)).lev ∗ emp ∗ tilePts ti d (wL2 L) (tq d)
        ∗ scopedBufs (V d (cV2 L) (jV2 L)) ∗ scopedSems0 (V d (cV2 L) (jV2 L)) ∗ owes (V d (cV2 L) (jV2 L)) O W) : sProp 𝕄)
      ⊢ wp frame (wpE (defs₀ (F := F)) 𝒱₀ (V d (cV2 L) (jV2 L)) none) Set.univ
          (cc2__sc_adj L iW (Memref.isWhole_whole _) oW (Memref.isWhole_whole _) sI (Memref.isWhole_whole _) sB (Memref.isWhole_whole _) cc2_scoped0 cc2_scoped1)
          fun _ => iprop(tilePts ti d (wL2 L) (res ti d)
            ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') := by
  rw [(K (F := F)).scopedBufs_V facts d (cV2 L) (jV2 L), SparseCore.Cfg.scopedSems0_V (Val := Elt F) d (cV2 L) (jV2 L),
    ownSems0_of (V d (cV2 L) (jV2 L)) sems2 sems2_scoped, sems2_eq, ownBufs2_V]
  unfold tilePts
  rw [← WAdjTile.pts_iR, ← WAdjTile.pts_oR, ← WAdjTile.pts_oR]
  iintro ⟨#Hlv, -, ⟨Hi, Ho⟩, ⟨⟨%f0, HsI⟩, ⟨%f1, HsB⟩, Hbufs⟩, ⟨⟨Hs0, Hs1⟩, Hsems⟩, HO⟩
  ihave Hmw := ((K (F := F)).mayWaits_none (thr := V d (cV2 L) (jV2 L)) hO) $$ Hlv
  iapply (wp_wand_r Idealize.ShloMosaic.frame (wpE (defs₀ (F := F)) 𝒱₀ (V d (cV2 L) (jV2 L)) none) Set.univ)
  isplitl [Hmw Hi Ho HsI HsB Hs0 Hs1 HO]
  · iapply (WAdjTile.body_run d L O W (ti d) (tq d) hpre f0 f1)
    isplitl [Hmw]; · iexact Hmw
    isplitl [Hi]; · iexact Hi
    isplitl [Ho]; · iexact Ho
    isplitl [HsI]; · iexact HsI
    isplitl [HsB]; · iexact HsB
    isplitl [Hs0]; · iexact Hs0
    isplitl [Hs1]; · iexact Hs1
    iexact HO
  iintro %_ ⟨Hi, Ho, HsI, HsB, Hs0, Hs1, HO⟩
  isplitl [Hi Ho]
  · isplitl [Hi]; · iexact Hi
    iexact Ho
  isplitl [HsI HsB Hbufs]
  · isplitl [HsI]; · iexact HsI
    isplitl [HsB]; · iexact HsB
    iexact Hbufs
  isplitl [Hs0 Hs1 Hsems]
  · isplitr [Hsems]
    · isplitl [Hs0]; · iexact Hs0
      iexact Hs1
    iexact Hsems
  iexact HO

end Tile2

/-! ## The launch theorem's obligations -/

theorem defs₀_vector0 (c : Fin τ.nSC) (s : Fin τ.nSub) :
    defs₀ (F := F) (.scVector c s) 0 ()
      = SparseCore.onTile hcore0 hsub0 (fun c s => cc0__sc_im2col (coordsV c s)
          xW (Memref.isWhole_whole _) pW (Memref.isWhole_whole _) sX (Memref.isWhole_whole _) sP (Memref.isWhole_whole _) cc0_scratch2 cc0_scoped0 cc0_scoped1 cc0_scoped2 cc0_scoped3 cc0_scoped4 cc0_scoped5 cc0_scoped6 cc0_scoped7) ⟨⟩ c s := rfl
theorem defs₀_vector2 (c : Fin τ.nSC) (s : Fin τ.nSub) :
    defs₀ (F := F) (.scVector c s) 2 ()
      = SparseCore.onTile hcore2 hsub2 (fun c s => cc2__sc_adj (coordsV2 c s)
          iW (Memref.isWhole_whole _) oW (Memref.isWhole_whole _) sI (Memref.isWhole_whole _) sB (Memref.isWhole_whole _) cc2_scoped0 cc2_scoped1) ⟨⟩ c s := rfl

omit [FloatOps F] [Named F] in
/-- The waits a tile records are the transfers' own: none of the calls'. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl0 : (K (F := F)).TileObl (D (F := F)) 𝒱 (P tx tp ti tq) v₀ 0 := by
  intro d c i O W hO _ _
  simp only [show (P tx tp ti tq).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector0]; simp only [SparseCore.onTile, hc, and_self, ↓reduceDIte]
  exact (tile_body0 tx tp d (coordsV ⟨_, hc.1⟩ ⟨_, hc.2⟩) (shr c i) O W hO).trans (wp_mono frame _ _ fun _ => obl_post)

theorem tileObl1 (hpre : ∀ (d : Dev nD) (y : S8x576x16.Idx), BitVec.toNat (w := 32) (ti d y) < 576) :
    (K (F := F)).TileObl (D (F := F)) 𝒱 (P tx tp ti tq) v₀ 1 := by
  intro d c i O W hO _ _
  simp only [show (P tx tp ti tq).ox = fun _ _ => 0 from rfl, add_zero]
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector2]; simp only [SparseCore.onTile, hc, and_self, ↓reduceDIte]
  exact (tile_body2 ti tq d (coordsV2 ⟨_, hc.1⟩ ⟨_, hc.2⟩) (hpre d) O W hO).trans (wp_mono frame _ _ fun _ => obl_post)

theorem vecSplit0 : (K (F := F)).VecSplit' (P tx tp ti tq) 0 := by
  intro d c
  show (stP tx tp ti tq 0 d c : sProp 𝕄) ⊢ |={Set.univ}=> iprop(
      stP tx tp ti tq 0 d c ∗ (dnP tx ti 0 d c -∗ dnP tx ti 0 d c))
  iintro H; imodintro
  isplitl [H]; · iexact H
  iintro H; iexact H

theorem vecSplit1 : (K (F := F)).VecSplit' (P tx tp ti tq) 1 := by
  intro d c
  show (stP tx tp ti tq 1 d c : sProp 𝕄) ⊢ |={Set.univ}=> iprop(
      stP tx tp ti tq 1 d c ∗ (dnP tx ti 1 d c -∗ dnP tx ti 1 d c))
  iintro H; imodintro
  isplitl [H]; · iexact H
  iintro H; iexact H

end Cert.Proof.WTiles

end
-- ==== Proof.WRun.lean ====
/-
  The whole kernel's run: @main's host operations, the patch call, the TensorCore call as a region, the adjacency call. From
  every launch memory from which the TensorCore call leaves index words below 576, at any semantics of floats: the arguments are
  unchanged, the first result is the TensorCore call's, the second the adjacency of its index words, every counter is at zero.
-/
module

public import proofs.«01_k».proof.Proof.WTiles

@[expose] public section

noncomputable section

namespace Cert.Proof.WRun

open Cert.WholeIdeal Cert.WholeIdeal.Gen
open Cert.Proof.W
open Cert.Proof.PatchBody (xLoc pLoc)
open Cert.Proof.WAdjTile (iLoc oLoc)
open Cert.Proof.WTc (K dat reg debt adm pdats)
open Cert.Proof.WTiles (D 𝒱 v₀ facts EH px res)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)

variable {F : FTy → Type}

local notation "𝕄" => MT nD τ sig (HIx 2) (Elt F) ℕ UU ℕ

variable [FloatOps F] [Named F]
variable (m : (ℓ : Loc nD τ sig) → Buf (Elt F) ℓ) (ρ : Dev nD → PrngReg)

/-! ## The arrays through @main -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev y' : DevRef τ sig := Proc.devRef .tc (main_v5_0 : Ref sig .tc)
abbrev i' : DevRef τ sig := Proc.devRef .tc (main_v5_1 : Ref sig .tc)
abbrev q' : DevRef τ sig := Proc.devRef .tc (main_v6 : Ref sig .tc)

abbrev opX : HloOp τ sig (Elt F) := StableHlo.reshape main_arg0 main_v0 (rfl : (.f32 : EltTy) = .f32) shapeCasts_S8x3x384x384_S9216x384
abbrev opW : HloOp τ sig (Elt F) := StableHlo.reshape main_arg1 main_v2 (rfl : (.f32 : EltTy) = .f32) shapeCasts_S192x3x16x16_S192x768
abbrev opT : HloOp τ sig (Elt F) := StableHlo.unary main_v2 main_v3 ((transpose S768x192 [1, 0] · transposes_S192x768_S768x192_1_0) : (⟨S192x768, .f32⟩ : BufTy).Contents (Elt F) → (⟨S768x192, .f32⟩ : BufTy).Contents (Elt F))
abbrev opB : HloOp τ sig (Elt F) := StableHlo.reshape main_arg2 main_v4 (rfl : (.f32 : EltTy) = .f32) shapeCasts_S192_S1x192

abbrev S11 : Finset (DevRef τ sig) := {a0', a1', a2', v0', v1', v2', v3', v4', y', i', q'}
/-- All but the image's rows, which the first call keeps. -/
abbrev S10 : Finset (DevRef τ sig) := {a0', a1', a2', v1', v2', v3', v4', y', i', q'}

omit [FloatOps F] [Named F] in
theorem held_S11 (d : Dev nD) (W : Valuation τ sig (Elt F)) :
    (held (T d) S11 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ (xLoc d ↦{fullShare} W v0') ∗ (pLoc d ↦{fullShare} W v1') ∗ ((SparseCore.T d).loc main_v2 ↦{fullShare} W v2') ∗ ((SparseCore.T d).loc main_v3 ↦{fullShare} W v3')
          ∗ ((SparseCore.T d).loc main_v4 ↦{fullShare} W v4') ∗ ((SparseCore.T d).loc main_v5_0 ↦{fullShare} W y') ∗ (iLoc d ↦{fullShare} W i') ∗ oLoc d ↦{fullShare} W q') := by
  unfold held S11
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] [Named F] in
theorem held_S10 (d : Dev nD) (W : Valuation τ sig (Elt F)) :
    (held (T d) S10 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ (pLoc d ↦{fullShare} W v1') ∗ ((SparseCore.T d).loc main_v2 ↦{fullShare} W v2') ∗ ((SparseCore.T d).loc main_v3 ↦{fullShare} W v3')
          ∗ ((SparseCore.T d).loc main_v4 ↦{fullShare} W v4') ∗ ((SparseCore.T d).loc main_v5_0 ↦{fullShare} W y') ∗ (iLoc d ↦{fullShare} W i') ∗ oLoc d ↦{fullShare} W q') := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] [Named F] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2)
          ∗ (xLoc d ↦{fullShare} W main_v0) ∗ (pLoc d ↦{fullShare} W main_v1) ∗ ((SparseCore.T d).loc main_v2 ↦{fullShare} W main_v2) ∗ ((SparseCore.T d).loc main_v3 ↦{fullShare} W main_v3)
          ∗ ((SparseCore.T d).loc main_v4 ↦{fullShare} W main_v4) ∗ ((SparseCore.T d).loc main_v5_0 ↦{fullShare} W main_v5_0) ∗ (iLoc d ↦{fullShare} W main_v5_1) ∗ oLoc d ↦{fullShare} W main_v6) := by
  unfold unscopedBufs
  rw [show (Finset.univ.filter fun b : Ref sig .tc => ¬ b.isScoped) = {main_arg0, main_arg1, main_arg2, main_v0, main_v1, main_v2, main_v3, main_v4, main_v5_0, main_v5_1, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

def V0 (d : Dev nD) : Valuation τ sig (Elt F) := fun b => m (d, b)
/-- Before the first call. -/
def V1 (d : Dev nD) : Valuation τ sig (Elt F) := (opX (F := F)).result (V0 m d)
/-- The image's rows, as the first call reads them; the patch array and the result as the calls find them. -/
abbrev tx (d : Dev nD) : Buf (Elt F) (xLoc d) := V1 m d v0'
abbrev tp (d : Dev nD) : Buf (Elt F) (pLoc d) := V1 m d v1'
/-- After the first call: the patch array at the patches. -/
def V2 (d : Dev nD) : Valuation τ sig (Elt F) := Function.update (V1 m d) v1' (px (F := F) (tx m) d)
/-- Before the TensorCore call. -/
def V5 (d : Dev nD) : Valuation τ sig (Elt F) := (opB (F := F)).result ((opT (F := F)).result ((opW (F := F)).result (V2 m d)))
def Vr : WTc.Vals F := fun c b => V5 m c (Proc.devRef .tc b)
/-- The TensorCore call's results, and the result of the whole. -/
def yv (d : Dev nD) : Buf (Elt F) ((SparseCore.T d : Thread nD τ).loc main_v5_0) := (dat (Vr m) d).arrAt 3 cfg1.N
def tiv (d : Dev nD) : Buf (Elt F) (iLoc d) := (dat (Vr m) d).arrAt 4 cfg1.N
abbrev tq (d : Dev nD) : Buf (Elt F) (oLoc d) := V5 m d q'

/-- What is asked of the launch memory: the index words the TensorCore call leaves name columns. -/
def PreOK : Prop := ∀ (d : Dev nD) (y : S8x576x16.Idx), BitVec.toNat (w := 32) (tiv m d y) < 576

abbrev P : (K (F := F)).Pay (nD := nD) (Val := Elt F) (Name := ℕ) (U := UU) := WTiles.P (tx m) (tp m) (tiv m) (tq m)

theorem unscoped_held (d : Dev nD) : (unscopedBufs d (fun b => m ((SparseCore.T d).loc b)) : sProp 𝕄) = held (T d) S11 (V0 m d) := by
  rw [unscopedBufs_eq, held_S11]; rfl

theorem V1_of (d : Dev nD) (b : DevRef τ sig) (h : b ∉ ({v0'} : Finset (DevRef τ sig))) : V1 m d b = m (d, b) :=
  (opX (F := F)).result_of_not_mem _ h
theorem V2_of (d : Dev nD) (b : DevRef τ sig) (h : b ≠ v1') : V2 m d b = V1 m d b := Function.update_of_ne h _ _
theorem V2_v1 (d : Dev nD) : V2 m d v1' = px (F := F) (tx m) d := Function.update_self _ _ _
theorem V5_of (d : Dev nD) (b : DevRef τ sig) (h2 : b ∉ ({v2'} : Finset (DevRef τ sig))) (h3 : b ∉ ({v3'} : Finset (DevRef τ sig))) (h4 : b ∉ ({v4'} : Finset (DevRef τ sig))) :
    V5 m d b = V2 m d b :=
  ((opB (F := F)).result_of_not_mem _ h4).trans (((opT (F := F)).result_of_not_mem _ h3).trans ((opW (F := F)).result_of_not_mem _ h2))

theorem V5_a0 (d : Dev nD) : V5 m d a0' = m ((SparseCore.T d).loc main_arg0) :=
  (V5_of m d a0' (by decide) (by decide) (by decide)).trans ((V2_of m d a0' (by decide)).trans (V1_of m d a0' (by decide)))
theorem V5_a1 (d : Dev nD) : V5 m d a1' = m ((SparseCore.T d).loc main_arg1) :=
  (V5_of m d a1' (by decide) (by decide) (by decide)).trans ((V2_of m d a1' (by decide)).trans (V1_of m d a1' (by decide)))
theorem V5_a2 (d : Dev nD) : V5 m d a2' = m ((SparseCore.T d).loc main_arg2) :=
  (V5_of m d a2' (by decide) (by decide) (by decide)).trans ((V2_of m d a2' (by decide)).trans (V1_of m d a2' (by decide)))

theorem hX : (opX (F := F)).bufs ⊆ S11 := show ({a0', v0'} : Finset (DevRef τ sig)) ⊆ S11 by decide
theorem hW : (opW (F := F)).bufs ⊆ S10 := show ({a1', v2'} : Finset (DevRef τ sig)) ⊆ S10 by decide
theorem hT : (opT (F := F)).bufs ⊆ S10 := show ({v2', v3'} : Finset (DevRef τ sig)) ⊆ S10 by decide
theorem hB : (opB (F := F)).bufs ⊆ S10 := show ({a2', v4'} : Finset (DevRef τ sig)) ⊆ S10 by decide

theorem held_V5 (d : Dev nD) :
    (held (T d) S10 ((opB (F := F)).result ((opT (F := F)).result ((opW (F := F)).result (V2 m d)))) : sProp 𝕄)
      = iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2))
          ∗ (pLoc d ↦{fullShare} V5 m d v1') ∗ ((SparseCore.T d).loc main_v2 ↦{fullShare} V5 m d v2') ∗ ((SparseCore.T d).loc main_v3 ↦{fullShare} V5 m d v3')
          ∗ ((SparseCore.T d).loc main_v4 ↦{fullShare} V5 m d v4') ∗ ((SparseCore.T d).loc main_v5_0 ↦{fullShare} V5 m d y') ∗ (iLoc d ↦{fullShare} V5 m d i') ∗ oLoc d ↦{fullShare} V5 m d q') := by
  show held (T d) S10 (V5 m d) = _
  rw [held_S10, V5_a0, V5_a1, V5_a2]

/-! ## The launch element -/

/-- The staging cells' component of the resources. -/
abbrev EP : Emb (URounds (GSem nD τ sig) Unit) (MT nD τ sig (HIx 2) (Elt F) ℕ UU ℕ) :=
  (Emb.inl : Emb (URounds (GSem nD τ sig) Unit) (URounds (GSem nD τ sig) Unit × Counters)).trans embR
instance EP_landsIn : (EP : Emb (URounds (GSem nD τ sig) Unit) 𝕄).LandsIn (upEmb : UEmb _ 𝕄) := by unfold EP; infer_instance

abbrev pins : Fin 1 → Pipeline.Cfg sig Λ₀ := Pipeline.pin (pcfgs (F := F)) adm

def u₀ : UU := (initOf (K (F := F)).hsCells (K (F := F)).hsToks,
  (initOf (Pipeline.cells (nD := nD) (τ := τ) (pins (F := F)) WTc.cellOf_inj) (Pipeline.launchToks (pins (F := F)) WTc.cellOf_inj), 1))

/-- What @main is dealt of the staging cells: their ghost state, and their duties' tokens. -/
abbrev G (d : Dev nD) : sProp 𝕄 := iprop(Pipeline.cellsGhost (pins (F := F)) EP 0 d ∗ Pipeline.toksInit (pins (F := F)) EP 0 d)

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 2 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pins (F := F)) EP WTc.cellOf_inj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (pins (F := F)) EP 0 d)
        = bigSep Finset.univ fun c : Dev nD => bigSep Finset.univ fun p => Pipeline.cellsGhost (pins (F := F)) EP p c from
        bigSep_congr fun c _ => (bigSep_univ_of_subsingleton (0 : Fin 1) (Φ := fun p => Pipeline.cellsGhost (pins (F := F)) EP p c)).symm]
      iexact Hg
    · rw [show (bigSep Finset.univ fun d : Dev nD => (Pipeline.toksInit (pins (F := F)) EP 0 d : sProp 𝕄))
        = bigSep Finset.univ fun c : Dev nD => bigSep Finset.univ fun p => Pipeline.toksInit (pins (F := F)) EP p c from
        bigSep_congr fun c _ => (bigSep_univ_of_subsingleton (0 : Fin 1) (Φ := fun p => (Pipeline.toksInit (pins (F := F)) EP p c : sProp 𝕄))).symm]
      iexact Ht
  unfold P WTiles.P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The TensorCore call inside @main -/

/-- What the core keeps of the calls' protocol while it runs the TensorCore call. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom 1) fun q => bigSep Finset.univ fun c : Fin ((K (F := F)).nCore q) =>
        iprop(dutyTok (EH (F := F)) ((K (F := F)).startCell d ((K (F := F)).core q c)) ((K (F := F)).sRank ((K (F := F)).core q c) q.val) 0 ∗ cred (tallyAt ((K (F := F)).doneCell d) (some q) 1)))

omit [FloatOps F] [Named F] in
theorem tcSt_one (d : Dev nD) : ((K (F := F)).tcSt EH d 1 : sProp 𝕄) = iprop(debt (F := F) d ∗ tcRest d) := by
  unfold SparseCore.Cfg.tcSt tcRest
  rfl

/-- The call, in the labels of the regions alone. -/
def tcProg : Prog (TpuEff nD τ sig (Elt F) (WTc.Λ1 (F := F)) .tc) PUnit := .op (.customCall (Pipeline.entry 0) ()) fun x => .ret x

omit [FloatOps F] [Named F] in
theorem lift_tcProg : (SparseCore.liftProg (Q := 2) (tcProg (F := F)))
    = (Prog.lift (.customCall (SparseCore.inner (Pipeline.entry 0)) ()) : Prog (TpuEff nD τ sig (Elt F) (SparseCore.Sig (WTc.Λ1 (F := F)) 2) .tc) PUnit) := rfl

set_option backward.isDefEq.respectTransparency.types false in
theorem region_inner (V : WTc.Vals F) (d : Dev nD) [∀ e, Nonempty (Elt F e)] (Φ : PUnit → sProp 𝕄) :
    (iprop((iprop(boundary (d.tc : Thread nD τ) ∗ (reg V).post d) -∗ Φ ⟨⟩)
        ∗ boundary (d.tc : Thread nD τ) ∗ (reg V).pre d
        ∗ levAts (K (F := F)).L (K (F := F)).lev ∗ G (F := F) d) : sProp 𝕄)
      ⊢ wp frame (wpE (D (F := F)) 𝒱 (d.tc : Thread nD τ) none) Set.univ (tcProg (F := F)) Φ := by
  unfold tcProg
  have h := Pipeline.RegionSeg.wp (pcfgs (F := F)) adm (pdats V) none WTc.cellOf_inj EP defs₀ 𝒱₀ (K (F := F)).L (K (F := F)).lev
    (reg V) d none (fun u hu => nomatch hu) (fun x => .ret x) Φ
  iintro ⟨Hk, Hb, Hpre, Hl, Hg, Ht⟩
  iapply h
  isplitl [Hk]
  · iintro H
    rw [wp_ret]; imodintro
    iapply Hk
    iexact H
  isplitl [Hb]; · iexact Hb
  isplitl [Hpre]; · iexact Hpre
  isplitl [Hl]; · iexact Hl
  isplitl [Hg]; · iexact Hg
  iexact Ht

theorem region_run (V : WTc.Vals F) (d : Dev nD) [∀ e, Nonempty (Elt F e)] (Φ : PUnit → sProp 𝕄) :
    (iprop((iprop(boundary (SparseCore.T d : Thread nD τ) ∗ (dat V d).arrays ((dat V d).arrAt · cfg1.N) ∗ debt (F := F) d) -∗ Φ ⟨⟩)
        ∗ boundary (SparseCore.T d : Thread nD τ) ∗ ((dat V d).arrays ((dat V d).arrAt · 0) ∗ debt (F := F) d)
        ∗ levAts (K (F := F)).L (K (F := F)).lev ∗ G (F := F) d) : sProp 𝕄)
      ⊢ wp frame (wpE ((K (F := F)).defs (D (F := F))) 𝒱 (SparseCore.T d : Thread nD τ) none) Set.univ
          (Prog.lift (.customCall (SparseCore.inner (Pipeline.entry 0)) ())) Φ := by
  rw [← lift_tcProg]
  have h := (K (F := F)).wp_liftProg (D (F := F)) 𝒱 (Name := ℕ) (U := UU) (SparseCore.T d : Thread nD τ) Set.univ none (tcProg (F := F)) Φ
  exact (region_inner V d Φ).trans h

/-! ## @main on the TensorCore -/

abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2))
    ∗ ((SparseCore.T d).loc main_v5_0 ↦{fullShare} yv m d) ∗ oLoc d ↦{fullShare} res (tiv m) d)

theorem arrays_in (d : Dev nD) : ((dat (Vr m) d).arrays ((dat (Vr m) d).arrAt · 0) : sProp 𝕄)
    = iprop((pLoc d ↦{fullShare} V5 m d v1') ∗ ((SparseCore.T d : Thread nD τ).loc main_v3 ↦{fullShare} V5 m d v3')
      ∗ ((SparseCore.T d : Thread nD τ).loc main_v4 ↦{fullShare} V5 m d v4') ∗ ((SparseCore.T d : Thread nD τ).loc main_v5_0 ↦{fullShare} V5 m d y') ∗ iLoc d ↦{fullShare} V5 m d i') :=
  (WTc.arrays_pts (Vr m) d _).trans rfl
theorem arrays_out (d : Dev nD) : ((dat (Vr m) d).arrays ((dat (Vr m) d).arrAt · cfg1.N) : sProp 𝕄)
    = iprop((pLoc d ↦{fullShare} (dat (Vr m) d).arrAt 0 cfg1.N) ∗ ((SparseCore.T d : Thread nD τ).loc main_v3 ↦{fullShare} (dat (Vr m) d).arrAt 1 cfg1.N)
      ∗ ((SparseCore.T d : Thread nD τ).loc main_v4 ↦{fullShare} (dat (Vr m) d).arrAt 2 cfg1.N) ∗ ((SparseCore.T d : Thread nD τ).loc main_v5_0 ↦{fullShare} yv m d) ∗ iLoc d ↦{fullShare} tiv m d) :=
  WTc.arrays_pts (Vr m) d _

theorem hmain [∀ e, Nonempty (Elt F e)] (κ : GSem nD τ sig → ℕ) (d : Dev nD) :
    (iprop((K (F := F)).ctx EH (P m) κ ∗ (K (F := F)).tcSt EH d 0 ∗ (K (F := F)).tcRes m ρ d ∗ G (F := F) d) : sProp 𝕄)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, HG⟩
  ihave Hlev := (SparseCore.Cfg.ctx_levAts κ) $$ Hctx
  -- the image's rows
  iapply (wp_hlo_within 𝒱 (SparseCore.T d) none Set.univ (op := opX) (S := S11) hX (V := V0 m d)) $$ [Hb Hheld]
  · isplitl [Hb] <;> iassumption
  iintro ⟨Hb, Hheld⟩
  rw [wp_ret]; imodintro
  ihave Hh := (Entails.of_eq ((show (held (T d) S11 ((opX (F := F)).result (V0 m d)) : sProp 𝕄) = held (T d) S11 (V1 m d) from rfl).trans (held_S11 (F := F) d (V1 m d)))) $$ Hheld
  icases Hh with ⟨Ha0, Ha1, Ha2, Hx, Hp, Hv2, Hv3, Hv4, Hy, Hi, Hq⟩
  -- the first call
  iapply ((K (F := F)).wp_run (D (F := F)) 𝒱 (EH := EH) (P := P m) κ d 0) $$ [Hst Hx Hp Hb Ha0 Ha1 Ha2 Hv2 Hv3 Hv4 Hy Hi Hq Hts HG]
  isplitr; · iexact Hctx
  isplitl [Hst]; · iexact Hst
  isplitl [Hx Hp]
  · rw [WTiles.st0_eq]
    isplitl [Hx]; · iexact Hx
    iexact Hp
  iintro ⟨Hst, Hdn⟩
  ihave Hp := (Entails.of_eq (WTiles.dn0_eq (tx m) (tp m) (tiv m) (tq m) d)) $$ Hdn
  -- the weights' and the bias's rows
  iapply (wp_hlo_within 𝒱 (SparseCore.T d) none Set.univ (op := opW) (S := S10) hW (V := V2 m d)) $$ [Hb Ha0 Ha1 Ha2 Hp Hv2 Hv3 Hv4 Hy Hi Hq]
  · isplitl [Hb]; · iexact Hb
    rw [held_S10, V2_v1, V2_of m d a0' (by decide), V2_of m d a1' (by decide), V2_of m d a2' (by decide), V2_of m d v2' (by decide), V2_of m d v3' (by decide),
      V2_of m d v4' (by decide), V2_of m d y' (by decide), V2_of m d i' (by decide), V2_of m d q' (by decide)]
    isplitl [Ha0]; · iexact Ha0
    isplitl [Ha1]; · iexact Ha1
    isplitl [Ha2]; · iexact Ha2
    isplitl [Hp]; · iexact Hp
    isplitl [Hv2]; · iexact Hv2
    isplitl [Hv3]; · iexact Hv3
    isplitl [Hv4]; · iexact Hv4
    isplitl [Hy]; · iexact Hy
    isplitl [Hi]; · iexact Hi
    iexact Hq
  iintro ⟨Hb, Hheld⟩
  rw [wp_ret]; imodintro
  iapply (wp_hlo_within 𝒱 (SparseCore.T d) none Set.univ (op := opT) (S := S10) hT (V := (opW (F := F)).result (V2 m d))) $$ [Hb Hheld]
  · isplitl [Hb] <;> iassumption
  iintro ⟨Hb, Hheld⟩
  rw [wp_ret]; imodintro
  iapply (wp_hlo_within 𝒱 (SparseCore.T d) none Set.univ (op := opB) (S := S10) hB (V := (opT (F := F)).result ((opW (F := F)).result (V2 m d)))) $$ [Hb Hheld]
  · isplitl [Hb] <;> iassumption
  iintro ⟨Hb, Hheld⟩
  rw [wp_ret]; imodintro
  ihave Hh := (Entails.of_eq (held_V5 (F := F) m d)) $$ Hheld
  icases Hh with ⟨Ha0, Ha1, Ha2, Hp, Hv2, Hv3, Hv4, Hy, Hi, Hq⟩
  -- the TensorCore call
  ihave Hst' := (Entails.of_eq (show ((K (F := F)).tcSt EH d ((0 : Fin 2).val + 1) : sProp 𝕄) = _ from tcSt_one (F := F) d)) $$ Hst
  icases Hst' with ⟨Hdebt, Hrest⟩
  iapply (region_run (Vr m) d)
  isplitr [Hb Hp Hv3 Hv4 Hy Hi Hdebt Hlev HG]
  · iintro ⟨Hb, Harr, Hdebt⟩
    ihave Harr' := (Entails.of_eq (arrays_out m d)) $$ Harr
    icases Harr' with ⟨-, -, -, Hy, Hi⟩
    ihave Hst := (Entails.of_eq (tcSt_one (F := F) d).symm) $$ [Hdebt Hrest]
    · isplitl [Hdebt] <;> iassumption
    -- the last call
    iapply ((K (F := F)).wp_run (D (F := F)) 𝒱 (EH := EH) (P := P m) κ d 1) $$ [Hst Hi Hq Hb Ha0 Ha1 Ha2 Hy Hts]
    isplitr; · iexact Hctx
    isplitl [Hst]; · iexact Hst
    isplitl [Hi Hq]
    · rw [WTiles.st1_eq]
      isplitl [Hi]; · iexact Hi
      iexact Hq
    iintro ⟨Hst, Hdn⟩
    ihave Hdn' := (Entails.of_eq (WTiles.dn1_eq (tx m) (tp m) (tiv m) (tq m) d)) $$ Hdn
    icases Hdn' with ⟨-, Hq⟩
    imodintro
    isplitl [Hst]; · iexact Hst
    isplitr [Hb Hts]
    · isplitl [Ha0]; · iexact Ha0
      isplitl [Ha1]; · iexact Ha1
      isplitl [Ha2]; · iexact Ha2
      isplitl [Hy]; · iexact Hy
      iexact Hq
    isplitl [Hb] <;> iassumption
  isplitl [Hb]; · iexact Hb
  isplitl [Hp Hv3 Hv4 Hy Hi Hdebt]
  · isplitr [Hdebt]
    · rw [arrays_in]
      isplitl [Hp]; · iexact Hp
      isplitl [Hv3]; · iexact Hv3
      isplitl [Hv4]; · iexact Hv4
      isplitl [Hy]; · iexact Hy
      iexact Hi
    iexact Hdebt
  isplitl [Hlev]; · iexact Hlev
  iexact HG

/-- What the claims read of device `d`'s final state. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_v5_0) = yv m d ∧ s'.mem.mem (oLoc d) = res (tiv m) d

omit [FloatOps F] [Named F] in
theorem read_whole (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro ⟨HSI, Hx⟩
  ihave H := (persistent_entails_right (SI_pointsTo_agree (st := s') (ℓ := ℓ) (I := Finset.univ) (q := fullShare) (f := f))) $$ [HSI Hx]
  · isplitl [HSI] <;> iassumption
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, Hy, Hq⟩, HSI⟩
  ihave H := (read_whole s' _ _) $$ [HSI H0]
  · isplitl [HSI] <;> iassumption
  icases H with ⟨%h0, HSI⟩
  ihave H := (read_whole s' _ _) $$ [HSI H1]
  · isplitl [HSI] <;> iassumption
  icases H with ⟨%h1, HSI⟩
  ihave H := (read_whole s' _ _) $$ [HSI H2]
  · isplitl [HSI] <;> iassumption
  icases H with ⟨%h2, HSI⟩
  ihave H := (read_whole s' _ _) $$ [HSI Hy]
  · isplitl [HSI] <;> iassumption
  icases H with ⟨%h3, HSI⟩
  ihave H := (read_whole s' _ _) $$ [HSI Hq]
  · isplitl [HSI] <;> iassumption
  icases H with ⟨%h4, HSI⟩
  ipureintro; exact ⟨h0, h1, h2, h3, h4⟩

/-! ## The program's run -/

def QC : PUnit × MemSt nD τ sig (Elt F) → Prop := fun r =>
  (∀ c : Dev nD, r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2)
    ∧ r.2.mem ((SparseCore.T c).loc main_v5_0) = yv m c ∧ r.2.mem (oLoc c) = res (tiv m) c) ∧ r.2.sem = fun _ => 0

theorem run_main [∀ e, Nonempty (Elt F e)] (hpre : PreOK m) :
    θ_run (Cert.WholeIdeal.defs (F := F)) (Cert.WholeIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => WTiles.tileObl0 _ _ _ _ | 1 => WTiles.tileObl1 _ _ _ _ hpre)
    (fun q _ => match q with | 0 => SparseCore.Cfg.VecSplit.of_plain (WTiles.vecSplit0 _ _ _ _) | 1 => SparseCore.Cfg.VecSplit.of_plain (WTiles.vecSplit1 _ _ _ _))
    m ρ main (G (F := F)) (FIN m) (u₀ (F := F)) (sep_elim_left.trans (hu₀ m)) (hmain m ρ) (fq m) (hfin m) (QC m) (fun _ h hz => ⟨h, hz⟩)

end Cert.Proof.WRun

end
-- ==== Proof.WRank.lean ====
/-
  A stable sort's first positions, found by taking the least element again and again: if `s 0, s 1, …` are the places of the least
  elements taken one after another (the first of them where several are least), each struck out by an element greater than all
  others, then the stable sort puts the element of place `s i` at position `i`, and a place's rank, the position where a second
  sort of the sorted places finds it, is below `k` exactly when it is one of the first `k` places taken.
-/
module

public import Idealize.ShloMosaic.Lib.SortPrefix
public import Mathlib.Order.Basic
public import Mathlib.Order.BoundedOrder.Basic

@[expose] public section

namespace Cert.Proof.WRank

open Idealize.ShloMosaic

/-- A stable sort asks only whether a later element is before an earlier one. -/
theorem stableSort_congr_later {ι : Type} (R R' : ι → ι → Bool) :
    ∀ l : List ι, l.Pairwise (fun a b => R b a = R' b a) → stableSort R l = stableSort R' l
  | [], _ => rfl
  | a :: l, h => by
    obtain ⟨h1, h2⟩ := List.pairwise_cons.mp h
    unfold stableSort
    rw [stableSort_congr_later R R' l h2]
    exact insertBefore_congr R R' a _ fun b hb => h1 b ((perm_stableSort R' l).mem_iff.mp hb)

theorem sortedFrom_congr_later {n : ℕ} (R R' : Fin n → Fin n → Bool) (h : ∀ a b : Fin n, a < b → R b a = R' b a) :
    sortedFrom R = sortedFrom R' := by
  have e : sortPositions n R = sortPositions n R' :=
    stableSort_congr_later R R' (List.finRange n) ((List.pairwise_lt_finRange n).imp fun {a b} hab => h a b hab)
  funext k
  unfold sortedFrom
  rw [List.get_of_eq e]
  rfl

variable {α : Type} [LinearOrder α]

/-- Before by the key, and at equal keys by the place. -/
def lex {n : ℕ} (f : Fin n → α) (k k' : Fin n) : Bool := decide (f k < f k') || (decide (f k = f k') && decide (k < k'))

theorem lex_total {n : ℕ} (f : Fin n → α) : StrictTotalBefore (lex f) :=
  StrictTotalBefore.of_key_then_position (fun a b : α => decide (a < b)) f (fun a => by simp)
    (fun a b c h1 h2 => by simp only [decide_eq_true_eq] at *; exact h1.trans h2)
    (fun a b => by simp only [decide_eq_true_eq]; exact lt_trichotomy a b)

theorem lex_false {n : ℕ} {f : Fin n → α} {p q : Fin n} (h : f q ≤ f p) (h' : f p = f q → q ≤ p) : lex f p q = false := by
  unfold lex
  rw [Bool.or_eq_false_iff, Bool.and_eq_false_iff, decide_eq_false_iff_not, decide_eq_false_iff_not, decide_eq_false_iff_not]
  exact ⟨not_lt.mpr h, or_iff_not_imp_left.mpr fun e => not_lt.mpr (h' (not_not.mp e))⟩

/-- The stable sort by the key is the sort by the key and then the place. -/
theorem sortedFrom_lex {n : ℕ} (f : Fin n → α) : sortedFrom (fun k k' => decide (f k < f k')) = sortedFrom (lex f) :=
  sortedFrom_congr_later _ _ fun a b hab => by
    unfold lex
    rw [decide_eq_false (not_lt.mpr hab.le), Bool.and_false, Bool.or_false]

/-- `s` takes the least of what `w` leaves, `w` strikes out what `s` took. -/
structure Takes [OrderTop α] {n : ℕ} (k : ℕ) (f : Fin n → α) (w : ℕ → Fin n → α) (s : Fin k → Fin n) : Prop where
  start : w 0 = f
  least : ∀ (i : Fin k) (p : Fin n), w i.val (s i) ≤ w i.val p
  first : ∀ (i : Fin k) (p : Fin n), w i.val p = w i.val (s i) → s i ≤ p
  strike : ∀ (i : Fin k) (p : Fin n), w (i.val + 1) p = if p = s i then ⊤ else w i.val p

namespace Takes

variable [OrderTop α] {n k : ℕ} {f : Fin n → α} {w : ℕ → Fin n → α} {s : Fin k → Fin n}

/-- What is left after `i` takings. -/
theorem left (h : Takes k f w s) : ∀ i : ℕ, i ≤ k → ∀ p, w i p = f p ∨ (w i p = ⊤ ∧ ∃ j : Fin k, j.val < i ∧ s j = p)
  | 0, _, p => .inl (congrFun h.start p)
  | i + 1, hi, p => by
    have hs := h.strike ⟨i, hi⟩ p
    by_cases hp : p = s ⟨i, hi⟩
    · rw [if_pos hp] at hs
      exact .inr ⟨hs, ⟨i, hi⟩, Nat.lt_succ_self i, hp.symm⟩
    · rw [if_neg hp] at hs
      rcases left h i (Nat.le_of_succ_le hi) p with e | ⟨e, j, hj, hjp⟩
      · exact .inl (hs.trans e)
      · exact .inr ⟨hs.trans e, j, Nat.lt_succ_of_lt hj, hjp⟩

theorem left_of_ne (h : Takes k f w s) {i : ℕ} (hi : i ≤ k) {p : Fin n} (hp : ∀ j : Fin k, j.val < i → s j ≠ p) : w i p = f p := by
  rcases h.left i hi p with e | ⟨-, j, hj, e⟩
  · exact e
  · exact absurd e (hp j hj)

/-- What was taken is struck out. -/
theorem struck (h : Takes k f w s) (j : Fin k) : ∀ i : ℕ, i ≤ k → j.val < i → w i (s j) = ⊤
  | 0, _, hj => absurd hj (Nat.not_lt_zero _)
  | i + 1, hi, hj => by
    have hs := h.strike ⟨i, hi⟩ (s j)
    by_cases hp : s j = s ⟨i, hi⟩
    · rw [if_pos hp] at hs; exact hs
    · rw [if_neg hp] at hs
      refine hs.trans (struck h j i (Nat.le_of_succ_le hi) ?_)
      rcases Nat.lt_succ_iff_lt_or_eq.mp hj with h1 | h1
      · exact h1
      · exact absurd (congrArg s (Fin.ext h1)) hp

/-- While not every place has been taken, what is taken was not struck out before. -/
theorem fresh (h : Takes k f w s) (hkn : k ≤ n) (hf : ∀ p, f p < ⊤) (i j : Fin k) (hij : i < j) : s i ≠ s j := by
  intro e
  have h1 : w j.val (s j) = ⊤ := e ▸ h.struck i j.val j.isLt.le hij
  obtain ⟨p, hp⟩ : ∃ p : Fin n, ∀ i : Fin k, i.val < j.val → s i ≠ p := by
    by_contra hc
    push Not at hc
    have hsurj : Function.Surjective (fun i : Fin j.val => s ⟨i.val, i.isLt.trans j.isLt⟩) := fun p => by
      obtain ⟨i, hi, e⟩ := hc p
      exact ⟨⟨i.val, hi⟩, e⟩
    have := Fintype.card_le_of_surjective _ hsurj
    rw [Fintype.card_fin, Fintype.card_fin] at this
    have := j.isLt
    omega
  have h2 := h.least j p
  rw [h1, h.left_of_ne j.isLt.le hp] at h2
  exact absurd (hf p) (not_lt.mpr h2)

theorem inj (h : Takes k f w s) (hkn : k ≤ n) (hf : ∀ p, f p < ⊤) : Function.Injective s := fun i j e => by
  rcases lt_trichotomy i j with hij | hij | hij
  · exact absurd e (h.fresh hkn hf i j hij)
  · exact hij
  · exact absurd e.symm (h.fresh hkn hf j i hij)

/-- THE SORT'S FIRST PLACES are those taken. -/
theorem sortedFrom_eq (h : Takes k f w s) (hkn : k ≤ n) (hf : ∀ p, f p < ⊤) (i : Fin k) :
    sortedFrom (fun k k' => decide (f k < f k')) (i.castLE hkn) = s i := by
  rw [sortedFrom_lex]
  have hdom : ∀ (i : Fin k) (p : Fin n), (∀ j : Fin k, j.val < i.val → s j ≠ p) → lex f p (s i) = false := fun i p hp => by
    have e1 := h.left_of_ne i.isLt.le hp
    have e2 := h.left_of_ne i.isLt.le (p := s i) fun j hj => h.fresh hkn hf j i hj
    refine lex_false ?_ fun e => h.first i p (by rw [e1, e2, e])
    have := h.least i p
    rwa [e1, e2] at this
  refine (lex_total f).sortedFrom_eq_of_prefix hkn s (h.inj hkn hf) (fun i j hij => hdom i (s j) fun j' hj' => ?_)
    (fun i p hp => hdom i p fun j _ => hp j) i
  exact h.fresh hkn hf j' j (lt_trans hj' hij)

end Takes

/-- Sorting the sorted places by themselves finds each place's position. -/
theorem sortedFrom_sortedFrom {n : ℕ} (B : Fin n → Fin n → Bool) (p : Fin n) :
    sortedFrom B (sortedFrom (fun k k' => decide (sortedFrom B k < sortedFrom B k')) p) = p := by
  let σ : Equiv.Perm (Fin n) := (Equiv.ofBijective (sortedFrom B) ⟨sortedFrom_injective B, sortedFrom_surjective B⟩).symm
  have h : sortedFrom (fun k k' => decide (sortedFrom B k < sortedFrom B k')) p = σ p := by
    have h1 : sortPositions n (fun k k' => decide (σ.symm k < σ.symm k')) = List.ofFn σ := sortPositions_of_perm σ
    exact (List.get_of_eq h1 _).trans (by simp)
  rw [h]
  exact σ.symm_apply_apply p

/-- A place's rank is below `k` exactly when it is one of the first `k` taken. -/
theorem rank_lt [OrderTop α] {n k : ℕ} {f : Fin n → α} {w : ℕ → Fin n → α} {s : Fin k → Fin n} (h : Takes k f w s) (hkn : k ≤ n)
    (hf : ∀ p, f p < ⊤) (p : Fin n) :
    (sortedFrom (fun k k' => decide (sortedFrom (fun k k' => decide (f k < f k')) k < sortedFrom (fun k k' => decide (f k < f k')) k')) p).val < k
      ↔ ∃ i : Fin k, s i = p := by
  set r := sortedFrom (fun k k' => decide (sortedFrom (fun k k' => decide (f k < f k')) k < sortedFrom (fun k k' => decide (f k < f k')) k')) p with hr
  have e : sortedFrom (fun k k' => decide (f k < f k')) r = p := sortedFrom_sortedFrom _ p
  constructor
  · intro hlt
    refine ⟨⟨r.val, hlt⟩, ?_⟩
    rw [← h.sortedFrom_eq hkn hf]
    exact e
  · rintro ⟨i, hi⟩
    rw [← h.sortedFrom_eq hkn hf, ← e] at hi
    have := congrArg Fin.val (sortedFrom_injective _ hi)
    rw [← this]
    exact i.isLt

end Cert.Proof.WRank
-- ==== Proof.WRound.lean ====
/-
  The seven selections of the TensorCore call on the extended reals: a round finds the lowest column holding the row's least
  distance and strikes it out, so the neighbours' words are the places the row's takings name.
-/
module

public import proofs.«01_k».proof.Proof.WTc
public import proofs.«01_k».proof.Proof.WRank
public import Idealize.ShloMosaic.Lib.Pointwise

@[expose] public section

set_option maxRecDepth 16384

noncomputable section

namespace Cert.Proof.WRound

open Cert.WholeIdeal Cert.WholeIdeal.Gen
open Cert.Proof.WTc (blkI)
open Idealize.ShloMosaic

theorem select_eq {α : Type} {n : ℕ} (a b : BitVec n) (x y : α) : Scalar.select (IntOp.cmpi .eq a b) x y = if a = b then x else y := by
  unfold Scalar.select IntOp.cmpi
  by_cases h : a = b
  · subst h
    simp
  · have : (a == b) = false := by simpa using h
    simp [this, h]

section Rounds

variable {F : FTy → Type} [FloatOps F] [Named F]

abbrev col : IVec S576x576 32 := iota .tc S576x576 32 [1] iota_S576x576_d1_w32
abbrev lane : IVec S576x16 32 := iota .tc S576x16 32 [1] iota_S576x16_d1_w32

/-- The columns holding the row's least distance, and a large word elsewhere. -/
def cand (w : FVec F S576x576 .f32) : IVec S576x576 32 :=
  select (cmpf .oeq w (broadcastTo S576x576 (shapeCast S576x1
      (multiReduction .minimumf [1] S576 w 0x7F800000#32 reduces_S576x576_S576 (.inl rfl) rfl) shapeCasts_S576_S576x1) broadcasts_S576x1_S576x576))
    col (broadcast S576x576 1073741824#32)
/-- The least of them. -/
def idx (w : FVec F S576x576 .f32) : IVec S576x1 32 :=
  shapeCast S576x1 (multiReductionI .minsi [1] S576 (cand w) 2147483647#32 reduces_S576x576_S576 rfl) shapeCasts_S576_S576x1
/-- The distances with that column struck out. -/
def next (w : FVec F S576x576 .f32) : FVec F S576x576 .f32 :=
  select (cmpi .eq (cand w) (broadcastTo S576x576 (idx w) broadcasts_S576x1_S576x576))
    (broadcast S576x576 (Named.named κ "big" 0x7F61B1E6#32)) w
/-- The distances after `k` rounds. -/
def work (w : FVec F S576x576 .f32) : ℕ → FVec F S576x576 .f32
  | 0 => w
  | k + 1 => next (work w k)
/-- One lane set to a column of words. -/
def put (k : BitVec 32) (i : IVec S576x1 32) (v : IVec S576x16 32) : IVec S576x16 32 :=
  select (cmpi .eq lane (broadcast S576x16 k)) (broadcastTo S576x16 (shapeCast S576x1 i shapeCasts_S576x1_S576x1) broadcasts_S576x1_S576x16) v

theorem blkI_eq (x0 : Vec F S1x576x768 .f32) (x1 : Vec F S768x192 .f32) (x2 : Vec F S1x192 .f32) :
    blkI x0 x1 x2 = shapeCast S1x576x16
      (put 6#32 (idx (work (k1_pay4 x0 x1 x2) 6)) (put 5#32 (idx (work (k1_pay4 x0 x1 x2) 5)) (put 4#32 (idx (work (k1_pay4 x0 x1 x2) 4))
        (put 3#32 (idx (work (k1_pay4 x0 x1 x2) 3)) (put 2#32 (idx (work (k1_pay4 x0 x1 x2) 2)) (put 1#32 (idx (work (k1_pay4 x0 x1 x2) 1))
          (put 0#32 (idx (work (k1_pay4 x0 x1 x2) 0)) (broadcast S576x16 0#32)))))))) shapeCasts_S576x16_S1x576x16 := rfl

theorem put_apply (k : BitVec 32) (i : IVec S576x1 32) (v : IVec S576x16 32) (r : Fin 576) (l : Fin 16) :
    put k i v (ix2 r l) = if BitVec.ofNat 32 l.val = k then i (ix2 r 0) else v (ix2 r l) := by
  pointwise [put]
  exact select_eq _ _ _ _

end Rounds

/-- A fold of the signed minimum is at most its start and every word, and is one of them. -/
theorem fold_minsi_spec {ι : Type} (g : ι → BitVec 32) (b : BitVec 32) (s : Finset ι) :
    (s.fold IntOp.minsi b g).toInt ≤ b.toInt ∧ (∀ i ∈ s, (s.fold IntOp.minsi b g).toInt ≤ (g i).toInt)
      ∧ (s.fold IntOp.minsi b g = b ∨ ∃ i ∈ s, s.fold IntOp.minsi b g = g i) := by
  classical
  induction s using Finset.induction_on with
  | empty => exact ⟨by simp, by simp, .inl (by simp)⟩
  | insert a s ha ih =>
    rw [Finset.fold_insert ha]
    obtain ⟨h1, h2, h3⟩ := ih
    have e : IntOp.minsi (g a) (s.fold IntOp.minsi b g) = g a ∧ (g a).toInt ≤ (s.fold IntOp.minsi b g).toInt
        ∨ IntOp.minsi (g a) (s.fold IntOp.minsi b g) = s.fold IntOp.minsi b g ∧ (s.fold IntOp.minsi b g).toInt ≤ (g a).toInt := by
      unfold IntOp.minsi
      rw [BitVec.slt_eq_decide]
      split <;> simp_all <;> omega
    rcases e with ⟨e, hle⟩ | ⟨e, hle⟩ <;> rw [e]
    · refine ⟨hle.trans h1, fun i hi => ?_, .inr ⟨a, Finset.mem_insert_self _ _, rfl⟩⟩
      rcases Finset.mem_insert.mp hi with rfl | hi
      · exact le_rfl
      · exact hle.trans (h2 i hi)
    · refine ⟨h1, fun i hi => ?_, h3.imp id fun ⟨i, hi, e⟩ => ⟨i, Finset.mem_insert_of_mem hi, e⟩⟩
      rcases Finset.mem_insert.mp hi with rfl | hi
      · exact hle
      · exact h2 i hi

theorem inf_top : Ideal.ofBits .f32 0x7F800000#32 = ⊤ := by simp [Ideal.ofBits, Ideal.ieee]

theorem toInt_col (p : Fin 576) : (BitVec.ofNat 32 p.val).toInt = p.val := by
  have := p.isLt
  rw [BitVec.toInt_eq_toNat_cond, BitVec.toNat_ofNat, Nat.mod_eq_of_lt (by omega), if_pos (by omega)]

/-- A row's least element has a lowest column, and the fold of the minimum is it. -/
theorem least (f : Fin 576 → EReal) :
    ∃ c : Fin 576, (∀ p, f c ≤ f p) ∧ (∀ p, f p = f c → c ≤ p) ∧ Finset.univ.fold min (⊤ : EReal) f = f c := by
  obtain ⟨c0, -, h0⟩ := Finset.exists_min_image Finset.univ f ⟨0, Finset.mem_univ _⟩
  obtain ⟨c, hc, h1⟩ := Finset.exists_min_image (Finset.univ.filter fun c => f c = f c0) id ⟨c0, by simp⟩
  have e : f c = f c0 := (Finset.mem_filter.mp hc).2
  have hle : ∀ p, f c ≤ f p := fun p => e ▸ h0 p (Finset.mem_univ p)
  refine ⟨c, hle, fun p hp => h1 p (Finset.mem_filter.mpr ⟨Finset.mem_univ _, hp.trans e⟩), le_antisymm ?_ ?_⟩
  · exact (Finset.fold_min_le _).mpr (.inr ⟨c, Finset.mem_univ _, le_rfl⟩)
  · exact Finset.le_fold_min _ |>.mpr ⟨le_top, fun p _ => hle p⟩

theorem cand_apply (w : FVec Ideal S576x576 .f32) (r : Fin 576) (c : Fin 576) (hc : Finset.univ.fold min (⊤ : EReal) (fun p => w (ix2 r p)) = w (ix2 r c))
    (p : Fin 576) : cand w (ix2 r p) = if w (ix2 r p) = w (ix2 r c) then BitVec.ofNat 32 p.val else 1073741824#32 := by
  pointwise [cand]
  simp only [inf_top, hc]

/-- What a round finds in a row. -/
theorem idx_spec (w : FVec Ideal S576x576 .f32) (r : Fin 576) :
    ∃ c : Fin 576, idx w (ix2 r 0) = BitVec.ofNat 32 c.val ∧ (∀ p, w (ix2 r c) ≤ w (ix2 r p)) ∧ (∀ p, w (ix2 r p) = w (ix2 r c) → c ≤ p)
      ∧ ∀ p, next w (ix2 r p) = if p = c then ⊤ else w (ix2 r p) := by
  obtain ⟨c, h1, h2, h3⟩ := least fun p => w (ix2 r p)
  have hcand := cand_apply w r c h3
  have hidx : idx w (ix2 r 0) = BitVec.ofNat 32 c.val := by
    have e : idx w (ix2 r 0) = Finset.univ.fold IntOp.minsi 2147483647#32 (fun p => cand w (ix2 r p)) := by pointwise [idx]
    rw [e]
    obtain ⟨-, k2, k3⟩ := fold_minsi_spec (fun p => cand w (ix2 r p)) 2147483647#32 Finset.univ
    have hc : cand w (ix2 r c) = BitVec.ofNat 32 c.val := (hcand c).trans (if_pos rfl)
    have hle := k2 c (Finset.mem_univ c)
    simp only [hc, toInt_col] at hle
    have hc' := c.isLt
    rcases k3 with k3 | ⟨p, -, k3⟩
    · rw [k3] at hle
      have : (2147483647#32 : BitVec 32).toInt = 2147483647 := by decide
      omega
    · rw [k3] at hle ⊢
      simp only [hcand] at hle ⊢
      split at hle
      · next h =>
        rw [if_pos h]
        rw [toInt_col] at hle
        have := h2 p h
        have : p = c := le_antisymm (by exact_mod_cast hle) this
        rw [this]
      · have : (1073741824#32 : BitVec 32).toInt = 1073741824 := by decide
        omega
  refine ⟨c, hidx, h1, h2, fun p => ?_⟩
  have e : next w (ix2 r p) = Scalar.select (IntOp.cmpi .eq (cand w (ix2 r p)) (idx w (ix2 r 0))) (Named.named (F := Ideal) κ "big" (φ := .f32) 0x7F61B1E6#32) (w (ix2 r p)) := by
    pointwise [next]
  have hbig : Named.named (F := Ideal) κ "big" (φ := .f32) 0x7F61B1E6#32 = (⊤ : EReal) := rfl
  rw [e, hidx, hcand, hbig]
  have hiff : ((if w (ix2 r p) = w (ix2 r c) then BitVec.ofNat 32 p.val else 1073741824#32) = BitVec.ofNat 32 c.val) ↔ p = c := by
    constructor
    · intro h
      have := congrArg BitVec.toNat h
      have hp' := p.isLt
      have hc' := c.isLt
      split at this
      · rw [BitVec.toNat_ofNat, BitVec.toNat_ofNat, Nat.mod_eq_of_lt (by omega), Nat.mod_eq_of_lt (by omega)] at this
        exact Fin.ext this
      · rw [BitVec.toNat_ofNat, BitVec.toNat_ofNat, Nat.mod_eq_of_lt (by omega), Nat.mod_eq_of_lt (by omega)] at this
        omega
    · rintro rfl
      rw [if_pos rfl]
  rw [select_eq]
  exact if_congr hiff rfl rfl

/-- The column round `i` takes in row `r`. -/
def taken (w : FVec Ideal S576x576 .f32) (r : Fin 576) (i : Fin 7) : Fin 576 := (idx_spec (work w i.val) r).choose

theorem idx_taken (w : FVec Ideal S576x576 .f32) (r : Fin 576) (i : Fin 7) : idx (work w i.val) (ix2 r 0) = BitVec.ofNat 32 (taken w r i).val :=
  (idx_spec (work w i.val) r).choose_spec.1

/-- The rounds take the row's least distances one after another. -/
theorem takes (w : FVec Ideal S576x576 .f32) (r : Fin 576) :
    WRank.Takes 7 (fun p : Fin 576 => (w (ix2 r p) : EReal)) (fun i p => work w i (ix2 r p)) (taken w r) where
  start := rfl
  least i p := (idx_spec (work w i.val) r).choose_spec.2.1 p
  first i p := (idx_spec (work w i.val) r).choose_spec.2.2.1 p
  strike i p := (idx_spec (work w i.val) r).choose_spec.2.2.2 p

/-- The neighbours' words, lane by lane. -/
theorem blkI_apply (x0 : Vec Ideal S1x576x768 .f32) (x1 : Vec Ideal S768x192 .f32) (x2 : Vec Ideal S1x192 .f32) (r : Fin 576) (l : Fin 16) :
    blkI x0 x1 x2 (ix3 0 r l) = if h : l.val < 7 then BitVec.ofNat 32 (taken (k1_pay4 x0 x1 x2) r ⟨l.val, h⟩).val else 0#32 := by
  rw [blkI_eq]
  pointwise
  simp only [put_apply]
  obtain ⟨l, hl⟩ := l
  interval_cases l <;> simp (decide := true) only [↓reduceIte, ↓reduceDIte, broadcast]
  · exact idx_taken (k1_pay4 x0 x1 x2) r 0
  · exact idx_taken (k1_pay4 x0 x1 x2) r 1
  · exact idx_taken (k1_pay4 x0 x1 x2) r 2
  · exact idx_taken (k1_pay4 x0 x1 x2) r 3
  · exact idx_taken (k1_pay4 x0 x1 x2) r 4
  · exact idx_taken (k1_pay4 x0 x1 x2) r 5
  · exact idx_taken (k1_pay4 x0 x1 x2) r 6

end Cert.Proof.WRound

end
-- ==== Proof.WBlock.lean ====
/-
  What the TensorCore call leaves, block by block, and the three arrays it reads in terms of the program's arguments.
-/
module

public import proofs.«01_k».proof.Proof.WRun
public import proofs.«01_k».proof.Proof.WRound
public import Idealize.ShloMosaic.Lib.Pipeline.ValueKit
public import Idealize.ShloMosaic.Lib.Pointwise

@[expose] public section

set_option maxRecDepth 16384

noncomputable section

namespace Cert.Proof.WBlock

open Cert.WholeIdeal Cert.WholeIdeal.Gen
open Cert.Proof.WTc Cert.Proof.WRun
open Idealize.ShloMosaic Idealize.ShloMosaic.TcCoe
open Idealize.SL Idealize.SL.Sem

theorem outY_eq (x0 : Vec Ideal S1x576x768 .f32) (x1 : Vec Ideal S768x192 .f32) (x2 : Vec Ideal S1x192 .f32) : outY x0 x1 x2 = blkY x0 x1 x2 := by
  unfold outY
  frame_out
theorem outI_eq (x0 : Vec Ideal S1x576x768 .f32) (x1 : Vec Ideal S768x192 .f32) (x2 : Vec Ideal S1x192 .f32) : outI x0 x1 x2 = blkI x0 x1 x2 := by
  unfold outI
  frame_out

theorem idx_t : ∀ t : Fin grid1.N, win1_0.index t = ![t.val, 0, 0] ∧ win1_1.index t = ![0, 0] ∧ win1_2.index t = ![0, 0] ∧ win1_3.index t = ![t.val, 0, 0] ∧ win1_4.index t = ![t.val, 0, 0] := by
  decide +kernel

variable (V : Vals Ideal) (c : Dev nD)

theorem blk0 (t : Fin cfg1.N) : (iblk V c 0 t : S1x576x768.Idx → EReal) = fun z => V c main_v1 (ix3 (⟨t.val, t.isLt⟩ : Fin 8) (z 1) (z 2)) := by
  funext z
  obtain ⟨h0, h1, h2, h3, h4⟩ := idx_t t
  blk_ext [iblk, h0]
theorem blk1 (t : Fin cfg1.N) : (iblk V c 1 t : S768x192.Idx → EReal) = V c main_v3 := by
  funext z
  obtain ⟨h0, h1, h2, h3, h4⟩ := idx_t t
  blk_ext [iblk, h1]
theorem blk2 (t : Fin cfg1.N) : (iblk V c 2 t : S1x192.Idx → EReal) = V c main_v4 := by
  funext z
  obtain ⟨h0, h1, h2, h3, h4⟩ := idx_t t
  blk_ext [iblk, h2]

/-- One image's patches. -/
abbrev img (b : Fin 8) : Vec Ideal S1x576x768 .f32 := fun z => V c main_v1 (ix3 b (z 1) (z 2))

theorem arr3 : (dat V c).arrAt 3 cfg1.N = (fun y : S8x576x192.Idx => blkY (img V c (y 0)) (V c main_v3) (V c main_v4) (ix3 0 (y 1) (y 2)) : S8x576x192.Idx → EReal) := by
  refine (dat V c).arrAt_eq_of_covers 3 _ (by decide +kernel) fun t hf y => ?_
  obtain ⟨h0, h1, h2, h3, h4⟩ := idx_t t
  blk_simp
  rw [after_3, outY_eq, blk0, blk1, blk2]
  have e0 : (win1_3.blk t).view.emb y 0 = (⟨t.val, t.isLt⟩ : Fin 8) := by
    apply Fin.ext
    have hy : (y 0).val < 1 := (y 0).isLt
    blk_simp [h3]
  have e1 : (ix3 0 ((win1_3.blk t).view.emb y 1) ((win1_3.blk t).view.emb y 2) : S1x576x192.Idx) = y := by
    blk_ext [h3]
  rw [e0, e1]
  rfl

theorem arr4 : (dat V c).arrAt 4 cfg1.N = (fun y : S8x576x16.Idx => blkI (img V c (y 0)) (V c main_v3) (V c main_v4) (ix3 0 (y 1) (y 2)) : S8x576x16.Idx → BitVec 32) := by
  refine (dat V c).arrAt_eq_of_covers 4 _ (by decide +kernel) fun t hf y => ?_
  obtain ⟨h0, h1, h2, h3, h4⟩ := idx_t t
  blk_simp
  rw [after_4, outI_eq, blk0, blk1, blk2]
  have e0 : (win1_4.blk t).view.emb y 0 = (⟨t.val, t.isLt⟩ : Fin 8) := by
    apply Fin.ext
    have hy : (y 0).val < 1 := (y 0).isLt
    blk_simp [h4]
  have e1 : (ix3 0 ((win1_4.blk t).view.emb y 1) ((win1_4.blk t).view.emb y 2) : S1x576x16.Idx) = y := by
    blk_ext [h4]
  rw [e0, e1]
  rfl

variable (m : (ℓ : Loc nD τ sig) → Buf (Elt Ideal) ℓ) (d : Dev nD)

theorem rows_apply (x : S8x3x384x384.Idx → EReal) (R : Fin 9216) (C : Fin 384) :
    shapeCast S9216x384 x shapeCasts_S8x3x384x384_S9216x384 (ix2 R C)
      = x (ix4 (⟨R.val / 1152, by omega⟩ : Fin 8) (⟨R.val / 384 % 3, by omega⟩ : Fin 3) (⟨R.val % 384, by omega⟩ : Fin 384) C) := by
  pointwise

theorem v1_apply (b : Fin 8) (p : Fin 576) (k : Fin 768) :
    (V5 m d v1' : S8x576x768.Idx → EReal) (ix3 b p k)
      = (m ((SparseCore.T d).loc main_arg0) : S8x3x384x384.Idx → EReal) (ix4 b (⟨k.val / 256, by omega⟩ : Fin 3) (⟨p.val / 24 * 16 + k.val % 256 / 16, by omega⟩ : Fin 384)
        (⟨p.val % 24 * 16 + k.val % 16, by omega⟩ : Fin 384)) := by
  rw [V5_of m d v1' (by decide) (by decide) (by decide), V2_v1]
  have e : (tx m d : S9216x384.Idx → EReal) = shapeCast S9216x384 (m ((SparseCore.T d).loc main_arg0) : S8x3x384x384.Idx → EReal) shapeCasts_S8x3x384x384_S9216x384 := by
    simp only [tx, V1]
    after_results_simp
    rfl
  have e2 : (WTiles.px (tx m) d : S8x576x768.Idx → EReal) (ix3 b p k) = (tx m d : S9216x384.Idx → EReal) (ix2
      (⟨(b.val * 3 + k.val / 256) * 384 + p.val / 24 * 16 + k.val % 256 / 16, by omega⟩ : Fin 9216) (⟨p.val % 24 * 16 + k.val % 16, by omega⟩ : Fin 384)) := by
    refine congrArg (tx m d : S9216x384.Idx → EReal) ?_
    funext a
    match a with
    | ⟨0, _⟩ => rfl
    | ⟨1, _⟩ => rfl
  refine e2.trans ?_
  rw [e, rows_apply]
  have hb := b.isLt
  have hp := p.isLt
  have hk := k.isLt
  congr 1
  funext a
  apply Fin.ext
  match a with
  | ⟨0, _⟩ => show ((b.val * 3 + k.val / 256) * 384 + p.val / 24 * 16 + k.val % 256 / 16) / 1152 = b.val; omega
  | ⟨1, _⟩ => show ((b.val * 3 + k.val / 256) * 384 + p.val / 24 * 16 + k.val % 256 / 16) / 384 % 3 = k.val / 256; omega
  | ⟨2, _⟩ => show ((b.val * 3 + k.val / 256) * 384 + p.val / 24 * 16 + k.val % 256 / 16) % 384 = p.val / 24 * 16 + k.val % 256 / 16; omega
  | ⟨3, _⟩ => rfl

theorem v3_apply (k : Fin 768) (c : Fin 192) :
    (V5 m d v3' : S768x192.Idx → EReal) (ix2 k c)
      = (m ((SparseCore.T d).loc main_arg1) : S192x3x16x16.Idx → EReal) (ix4 c (⟨k.val / 256, by omega⟩ : Fin 3) (⟨k.val % 256 / 16, by omega⟩ : Fin 16) (⟨k.val % 16, by omega⟩ : Fin 16)) := by
  have e : (V5 m d v3' : S768x192.Idx → EReal) = transpose S768x192 [1, 0] (shapeCast S192x768 (m ((SparseCore.T d).loc main_arg1) : S192x3x16x16.Idx → EReal) shapeCasts_S192x3x16x16_S192x768) transposes_S192x768_S768x192_1_0 := by
    have h : V2 m d a1' = m ((SparseCore.T d).loc main_arg1) := (V2_of m d a1' (by decide)).trans (V1_of m d a1' (by decide))
    simp only [V5]
    after_results_simp
    rw [h]
    rfl
  rw [e]
  pointwise
  have h : k.val / 16 % 16 = k.val % 256 / 16 := by omega
  simp only [h]

theorem v4_apply (c : Fin 192) :
    (V5 m d v4' : S1x192.Idx → EReal) (ix2 0 c) = (m ((SparseCore.T d).loc main_arg2) : S192.Idx → EReal) (ix1 c) := by
  have e : (V5 m d v4' : S1x192.Idx → EReal) = shapeCast S1x192 (m ((SparseCore.T d).loc main_arg2) : S192.Idx → EReal) shapeCasts_S192_S1x192 := by
    have h : V2 m d a2' = m ((SparseCore.T d).loc main_arg2) := (V2_of m d a2' (by decide)).trans (V1_of m d a2' (by decide))
    simp only [V5]
    after_results_simp
    rw [h]
    rfl
  rw [e]
  pointwise

end Cert.Proof.WBlock

end
-- ==== Proof.WRef.lean ====
/-
  The whole problem's reference read index by index on the extended reals: the embeddings are a sum over a patch's features,
  the distances' squares a formula in them, and the adjacency whether a place's rank is below seven.
-/
module

public import proofs.«01_k».proof.Proof.WRank
public import proofs.«01_k».proof.Proof.Gen.WholeRefIdeal.Run
public import Idealize.ShloMosaic.Lib.Pointwise
public import Idealize.ShloMosaic.Lib.IdealHost

@[expose] public section

set_option maxRecDepth 16384

noncomputable section

namespace Cert.Proof.WRef

open Cert.WholeRefIdeal Cert.WholeRefIdeal.Gen
open Idealize.ShloMosaic

/-- The reference's embeddings. -/
def emb {F : FTy → Type} [FloatOps F] (x : FVec F S8x3x384x384 .f32) (w : FVec F S192x3x16x16 .f32) (b : FVec F S192 .f32) : FVec F S8x576x192 .f32 :=
  transpose S8x576x192 [0, 2, 1] (shapeCast _ (addf (transpose S8x192x24x24 [0, 3, 1, 2] (Host.dotGeneral dot_S8x3x24x16x24x16_S192x3x16x16_S8x24x24x192_135_123_024_0_n_n none (shapeCast _ x shapeCasts_S8x3x384x384_S8x3x24x16x24x16) w) transposes_S8x24x24x192_S8x192x24x24_0_3_1_2) (broadcastInDim S8x192x24x24 ![0, 1, 2, 3] bcast_S1x192x1x1_S8x192x24x24_0_1_2_3 (broadcastInDim S1x192x1x1 ![1] bcast_S192_S1x192x1x1_1 b))) shapeCasts_S8x192x24x24_S8x192x576) transposes_S8x192x576_S8x576x192_0_2_1

/-- The reference's squared distances. -/
def gap {F : FTy → Type} [FloatOps F] (e : FVec F S8x576x192 .f32) : FVec F S8x576x576 .f32 :=
  maximumf (subf (addf (broadcastInDim S8x576x576 ![0, 1, 2] bcast_S8x576x1_S8x576x576_0_1_2 (broadcastInDim S8x576x1 ![0, 1] bcast_S8x576_S8x576x1_0_1 (Host.reduceAdd (mulf e e) (constant S_ .f32 0x00000000#32) reducesTo_S8x576x192_S8x576_d2 h_S_))) (broadcastInDim S8x576x576 ![0, 1, 2] bcast_S8x1x576_S8x576x576_0_1_2 (broadcastInDim S8x1x576 ![0, 2] bcast_S8x576_S8x1x576_0_2 (Host.reduceAdd (mulf e e) (constant S_ .f32 0x00000000#32) reducesTo_S8x576x192_S8x576_d2 h_S_)))) (mulf (broadcastInDim S8x576x576 ![] bcast_S_S8x576x576 (constant S_ .f32 0x40000000#32)) (Host.dotGeneral dot_S8x576x192_S8x576x192_S8x576x576_2_2_1_1_0_0 none e e))) (broadcastInDim S8x576x576 ![] bcast_S_S8x576x576 (constant S_ .f32 0x00000000#32))

/-- The reference's adjacency, of the distances. -/
def near {F : FTy → Type} [FloatOps F] (d : FVec F S8x576x576 .f32) : FVec F S8x576x576 .f32 :=
  uitofp .f32 (cmpi .sle ((Host.sort2 S8x576x576 2 comparator_i32_i32_d2 ((Host.sort2 S8x576x576 2 comparator_f32_i32_d2 d (iotaInDim S8x576x576 32 2)).2) (iotaInDim S8x576x576 32 2)).2) (broadcastInDim S8x576x576 ![] bcast_S_S8x576x576 (constantI S_ 32 6#32)))

theorem res_eq {F : FTy → Type} [FloatOps F] (m : (ℓ : Loc nD τ sig) → Buf (Elt F) ℓ) (c : Dev nD) :
    Value.res_main_v26 m c = near (Host.sqrt (gap (emb (m ((c.tc : Thread nD τ).loc main_arg0)) (m ((c.tc : Thread nD τ).loc main_arg1)) (m ((c.tc : Thread nD τ).loc main_arg2))))) := rfl

abbrev D := dot_S8x3x24x16x24x16_S192x3x16x16_S8x24x24x192_135_123_024_0_n_n

theorem contr_size (a : Fin D.contr.rank) : D.contr.size a = if a.val = 0 then 3 else 16 := by
  have ha : a.val < 3 := a.isLt
  obtain ⟨a, h⟩ := a
  match a, h, ha with
  | 0, _, _ => rfl
  | 1, _, _ => rfl
  | 2, _, _ => rfl

/-- The contraction's places are the 768 features of a patch: channel, row, column. -/
def feat : Fin 768 ≃ D.contr.Idx where
  toFun k a := ⟨if a.val = 0 then k.val / 256 else if a.val = 1 then k.val % 256 / 16 else k.val % 16, by
    rw [contr_size]; have := k.isLt; split_ifs <;> omega⟩
  invFun q := ⟨(q ⟨0, by decide⟩).val * 256 + (q ⟨1, by decide⟩).val * 16 + (q ⟨2, by decide⟩).val, by
    have h0 : (q ⟨0, by decide⟩).val < 3 := (q ⟨0, by decide⟩).isLt
    have h1 : (q ⟨1, by decide⟩).val < 16 := (q ⟨1, by decide⟩).isLt
    have h2 : (q ⟨2, by decide⟩).val < 16 := (q ⟨2, by decide⟩).isLt
    omega⟩
  left_inv k := by apply Fin.ext; simp; omega
  right_inv q := by
    have h0 : (q ⟨0, by decide⟩).val < 3 := (q ⟨0, by decide⟩).isLt
    have h1 : (q ⟨1, by decide⟩).val < 16 := (q ⟨1, by decide⟩).isLt
    have h2 : (q ⟨2, by decide⟩).val < 16 := (q ⟨2, by decide⟩).isLt
    funext a
    apply Fin.ext
    have ha : a.val < 3 := a.isLt
    obtain ⟨a, h⟩ := a
    match a, h, ha with
    | 0, _, _ => simp; omega
    | 1, _, _ => simp; omega
    | 2, _, _ => simp; omega

theorem conv_apply (l : FVec Ideal S8x3x24x16x24x16 .f32) (w : FVec Ideal S192x3x16x16 .f32) (b : Fin 8) (py px : Fin 24) (c : Fin 192) :
    Ideal.matmul D l w (fun _ => 0) (ix4 b py px c)
      = ∑ k : Fin 768, l (ix6 b (⟨k.val / 256, by omega⟩ : Fin 3) py (⟨k.val % 256 / 16, by omega⟩ : Fin 16) px (⟨k.val % 16, by omega⟩ : Fin 16))
          * w (ix4 c (⟨k.val / 256, by omega⟩ : Fin 3) (⟨k.val % 256 / 16, by omega⟩ : Fin 16) (⟨k.val % 16, by omega⟩ : Fin 16)) := by
  unfold Ideal.matmul
  rw [zero_add, ← Equiv.sum_comp feat]
  refine Finset.sum_congr rfl fun k _ => ?_
  congr 1
  · congr 1
    funext a; apply Fin.ext
    match a with
    | ⟨0, _⟩ => rfl
    | ⟨1, _⟩ => rfl
    | ⟨2, _⟩ => rfl
    | ⟨3, _⟩ => rfl
    | ⟨4, _⟩ => rfl
    | ⟨5, _⟩ => rfl
  · congr 1
    funext a; apply Fin.ext
    match a with
    | ⟨0, _⟩ => rfl
    | ⟨1, _⟩ => rfl
    | ⟨2, _⟩ => rfl
    | ⟨3, _⟩ => rfl

/-- The reference's embedding at an index. -/
theorem emb_apply (x : FVec Ideal S8x3x384x384 .f32) (w : FVec Ideal S192x3x16x16 .f32) (v : FVec Ideal S192 .f32) (b : Fin 8) (p : Fin 576) (c : Fin 192) :
    emb x w v (ix3 b p c) = ∑ k : Fin 768, x (ix4 b (⟨k.val / 256, by omega⟩ : Fin 3) (⟨p.val / 24 * 16 + k.val % 256 / 16, by omega⟩ : Fin 384)
        (⟨p.val % 24 * 16 + k.val % 16, by omega⟩ : Fin 384))
      * w (ix4 c (⟨k.val / 256, by omega⟩ : Fin 3) (⟨k.val % 256 / 16, by omega⟩ : Fin 16) (⟨k.val % 16, by omega⟩ : Fin 16)) + v (ix1 c) := by
  pointwise [emb]
  rw [conv_apply]
  congr 1
  refine Finset.sum_congr rfl fun k _ => ?_
  congr 1
  pointwise

theorem gap_apply (e : FVec Ideal S8x576x192 .f32) (b : Fin 8) (r p : Fin 576) :
    gap e (ix3 b r p) = max (∑ x, e (ix3 b r x) * e (ix3 b r x) + ∑ x, e (ix3 b p x) * e (ix3 b p x)
        - Ideal.ofBits .f32 0x40000000#32 * ∑ x, e (ix3 b r x) * e (ix3 b p x)) 0 := by
  pointwise [gap]

abbrev ax : Fin S8x576x576.rank := (2 : Fin 3)

theorem along_eq (b : Fin 8) (r p k : Fin 576) : Shape.Idx.along (s := S8x576x576) (ix3 b r p) ax k = ix3 b r k := by
  funext a
  match a with
  | ⟨0, _⟩ => rfl
  | ⟨1, _⟩ => rfl
  | ⟨2, _⟩ => rfl

/-- The words a sort carries along the last axis: the places it reads. -/
theorem sort2_word {α : Type} (cmp : α × BitVec 32 → α × BitVec 32 → BitVec 1) (x : S8x576x576.Idx → α) (b : Fin 8) (r p : Fin 576) :
    (Host.sort2 S8x576x576 2 cmp x (iotaInDim S8x576x576 32 2)).2 (ix3 b r p)
      = BitVec.ofNat 32 (sortedFrom (n := 576) (fun k k' => cmp (x (ix3 b r k), BitVec.ofNat 32 k.val) (x (ix3 b r k'), BitVec.ofNat 32 k'.val) == 1#1) p).val := by
  have e : (Host.sort2 S8x576x576 2 cmp x (iotaInDim S8x576x576 32 2)).2 (ix3 b r p)
      = iotaInDim S8x576x576 32 2 (Shape.Idx.along (s := S8x576x576) (ix3 b r p) ax (sortedFrom (n := 576) (fun k k' =>
        cmp (x (Shape.Idx.along (s := S8x576x576) (ix3 b r p) ax k), iotaInDim S8x576x576 32 2 (Shape.Idx.along (s := S8x576x576) (ix3 b r p) ax k))
          (x (Shape.Idx.along (s := S8x576x576) (ix3 b r p) ax k'), iotaInDim S8x576x576 32 2 (Shape.Idx.along (s := S8x576x576) (ix3 b r p) ax k')) == 1#1) p)) := by
    unfold Host.sort2
    rw [dif_pos (show 2 < S8x576x576.rank by decide)]
    rfl
  rw [e]
  simp only [along_eq]
  rfl

theorem before_f32 (l r : EReal × BitVec 32) : (comparator_f32_i32_d2 (F := Ideal) l r == 1#1) = decide (l.1 < r.1) := by
  obtain ⟨a, i⟩ := l
  obtain ⟨c, j⟩ := r
  have tidy : ∀ a : EReal, Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0#32)) (FloatOps.ofBits (F := Ideal) .f32 0#32) a) = a := by
    intro a
    show Scalar.select (BitVec.ofBool (decide (a ≠ a))) _ (Scalar.select (BitVec.ofBool (decide (a = Ideal.ofBits .f32 0#32))) (Ideal.ofBits .f32 0#32) a) = a
    rw [Ideal.ofBits_zero_f32]
    by_cases h : a = 0 <;> simp [Scalar.select, h]
  show (FloatOps.cmpfTotal (F := Ideal) (φ := .f32) .lt (Scalar.select (FloatOps.cmpf (F := Ideal) (φ := .f32) .une a a) (FloatOps.ofBits (F := Ideal) .f32 0x7FC00000#32)
      (Scalar.select (FloatOps.cmpf (F := Ideal) (φ := .f32) .oeq a (FloatOps.ofBits (F := Ideal) .f32 0#32)) (FloatOps.ofBits (F := Ideal) .f32 0#32) a))
    (Scalar.select (FloatOps.cmpf (F := Ideal) (φ := .f32) .une c c) (FloatOps.ofBits (F := Ideal) .f32 0x7FC00000#32)
      (Scalar.select (FloatOps.cmpf (F := Ideal) (φ := .f32) .oeq c (FloatOps.ofBits (F := Ideal) .f32 0#32)) (FloatOps.ofBits (F := Ideal) .f32 0#32) c)) == 1#1) = _
  rw [tidy, tidy]
  show (BitVec.ofBool (decide (a < c)) == 1#1) = decide (a < c)
  by_cases h : a < c <;> simp [h]

theorem toInt_word (p : Fin 576) : (BitVec.ofNat 32 p.val).toInt = p.val := by
  have := p.isLt
  rw [BitVec.toInt_eq_toNat_cond, BitVec.toNat_ofNat, Nat.mod_eq_of_lt (by omega), if_pos (by omega)]

theorem before_i32 (p q : Fin 576) (l r : BitVec 32) :
    (comparator_i32_i32_d2 (BitVec.ofNat 32 p.val, l) (BitVec.ofNat 32 q.val, r) == 1#1) = decide (p < q) := by
  show (IntOp.cmpi .slt (BitVec.ofNat 32 p.val) (BitVec.ofNat 32 q.val) == 1#1) = _
  unfold IntOp.cmpi
  simp only [BitVec.slt_eq_decide, toInt_word]
  by_cases h : p < q
  · have : (p.val : Int) < q.val := by exact_mod_cast h
    simp [h, this]
  · have : ¬ (p.val : Int) < q.val := by exact_mod_cast h
    simp [h, this]

theorem le6 (q : Fin 576) : FloatOps.uitofp (F := Ideal) .f32 (IntOp.cmpi .sle (BitVec.ofNat 32 q.val) 6#32) = if q.val < 7 then (1 : EReal) else 0 := by
  unfold IntOp.cmpi
  simp only [BitVec.sle_eq_decide, toInt_word]
  have : (6#32 : BitVec 32).toInt = 6 := by decide
  rw [this]
  show ((BitVec.ofBool (decide ((q.val : Int) ≤ 6))).toNat : EReal) = _
  by_cases h : q.val < 7
  · have : (q.val : Int) ≤ 6 := by omega
    simp [h, this]
  · have : ¬ (q.val : Int) ≤ 6 := by omega
    simp [h, this]

theorem near_apply (d : FVec Ideal S8x576x576 .f32) (b : Fin 8) (r p : Fin 576) :
    near d (ix3 b r p) = if (sortedFrom (fun k k' => decide (sortedFrom (fun k k' => decide ((d (ix3 b r k) : EReal) < d (ix3 b r k'))) k
        < sortedFrom (fun k k' => decide ((d (ix3 b r k) : EReal) < d (ix3 b r k'))) k')) p).val < 7 then (1 : EReal) else 0 := by
  pointwise [near]
  simp only [sort2_word, before_f32, before_i32]
  exact le6 _

theorem sqrt_lt {a b : EReal} (ha : 0 ≤ a) (hb : 0 ≤ b) : Ideal.sqrt a < Ideal.sqrt b ↔ a < b := by
  have key : ∀ r : ℝ, (0 : EReal) ≤ (r : EReal) → Ideal.sqrt (r : EReal) = (Real.sqrt r : EReal) := by
    intro r hr
    show (if r < 0 then (⊥ : EReal) else (Real.sqrt r : EReal)) = _
    rw [if_neg (not_lt.mpr (EReal.coe_nonneg.mp hr))]
  have top : Ideal.sqrt (⊤ : EReal) = ⊤ := rfl
  induction a using EReal.rec with
  | bot => simp at ha
  | top => simp [top]
  | coe a =>
    induction b using EReal.rec with
    | bot => simp at hb
    | top => rw [key a ha, top]; simp
    | coe b =>
      rw [key a ha, key b hb, EReal.coe_lt_coe_iff, EReal.coe_lt_coe_iff]
      exact Real.sqrt_lt_sqrt_iff (EReal.coe_nonneg.mp ha)

theorem near_sqrt_apply (d : FVec Ideal S8x576x576 .f32) (hd : ∀ i, (0 : EReal) ≤ d i) (b : Fin 8) (r p : Fin 576) :
    near (Host.sqrt d) (ix3 b r p) = if (sortedFrom (fun k k' => decide (sortedFrom (fun k k' => decide ((d (ix3 b r k) : EReal) < d (ix3 b r k'))) k
        < sortedFrom (fun k k' => decide ((d (ix3 b r k) : EReal) < d (ix3 b r k'))) k')) p).val < 7 then (1 : EReal) else 0 := by
  rw [near_apply]
  have e : ∀ k k' : Fin 576, ((Host.sqrt d (ix3 b r k) : EReal) < Host.sqrt d (ix3 b r k')) = ((d (ix3 b r k) : EReal) < d (ix3 b r k')) :=
    fun k k' => propext (sqrt_lt (hd _) (hd _))
  simp only [e]

end Cert.Proof.WRef

end
-- ==== Proof.WValue.lean ====
/-
  The whole kernel's two results are the reference's: the embeddings by the sums they are, and the adjacency because the
  seven selections take the places whose rank is below seven.
-/
module

public import proofs.«01_k».proof.Proof.WBlock
public import proofs.«01_k».proof.Proof.WRef
public import proofs.«01_k».proof.Proof.Gen.Pre_finite
public import Idealize.ShloMosaic.Lib.ReduceAll
public import Idealize.ShloMosaic.Lib.Affine
public import Idealize.ShloMosaic.Lib.Routing.OpsOrder

@[expose] public section

set_option maxRecDepth 16384

noncomputable section

namespace Cert.Proof.WValue

open Cert.WholeIdeal Cert.WholeIdeal.Gen
open Cert.Proof.WTc Cert.Proof.WRun Cert.Proof.WBlock
open Idealize.ShloMosaic Idealize.ShloMosaic.TcCoe
open Idealize.SL Idealize.SL.Sem

/-! ## Finite numbers -/

/-- A number that is neither infinity. -/
def Num (x : EReal) : Prop := ∃ r : ℝ, x = (r : EReal)

theorem Num.mul {x y : EReal} (hx : Num x) (hy : Num y) : Num (x * y) := by
  obtain ⟨a, rfl⟩ := hx
  obtain ⟨b, rfl⟩ := hy
  exact ⟨a * b, (EReal.coe_mul a b).symm⟩
theorem Num.add {x y : EReal} (hx : Num x) (hy : Num y) : Num (x + y) := by
  obtain ⟨a, rfl⟩ := hx
  obtain ⟨b, rfl⟩ := hy
  exact ⟨a + b, (EReal.coe_add a b).symm⟩
theorem Num.sub {x y : EReal} (hx : Num x) (hy : Num y) : Num (x - y) := by
  obtain ⟨a, rfl⟩ := hx
  obtain ⟨b, rfl⟩ := hy
  exact ⟨a - b, (EReal.coe_sub a b).symm⟩
theorem Num.maxOf {x y : EReal} (hx : Num x) (hy : Num y) : Num (max x y) := by
  rcases max_choice x y with h | h <;> rw [h] <;> assumption
theorem Num.zero : Num 0 := ⟨0, EReal.coe_zero.symm⟩
theorem Num.sum {ι : Type} (s : Finset ι) {f : ι → EReal} (h : ∀ i, Num (f i)) : Num (∑ i ∈ s, f i) := by
  classical
  induction s using Finset.induction_on with
  | empty => rw [Finset.sum_empty]; exact Num.zero
  | insert a s ha ih => rw [Finset.sum_insert ha]; exact (h a).add ih
theorem Num.two : Num (Ideal.ofBits .f32 0x40000000#32) := by
  refine ⟨8388608 * ((2 : ℝ) ^ 22)⁻¹, ?_⟩
  simp [Ideal.ofBits, Ideal.ieee]
theorem Num.of_abs {x : EReal} (h : max x (-x) < ⊤) : Num x := by
  induction x using EReal.rec with
  | bot => simp at h
  | top => simp at h
  | coe r => exact ⟨r, rfl⟩

theorem emb_fin {x : FVec Ideal S8x3x384x384 .f32} {w : FVec Ideal S192x3x16x16 .f32} {v : FVec Ideal S192 .f32}
    (hx : ∀ i, Num (x i)) (hw : ∀ i, Num (w i)) (hv : ∀ i, Num (v i)) (b : Fin 8) (p : Fin 576) (c : Fin 192) :
    Num (WRef.emb (F := Ideal) x w v (ix3 b p c)) := by
  rw [WRef.emb_apply]
  exact (Num.sum _ fun k => (hx _).mul (hw _)).add (hv _)

theorem gap_fin {e : FVec Ideal S8x576x192 .f32} (he : ∀ b p c, Num (e (ix3 b p c))) (b : Fin 8) (r p : Fin 576) :
    Num (WRef.gap (F := Ideal) e (ix3 b r p)) := by
  rw [WRef.gap_apply]
  exact ((((Num.sum _ fun k => (he _ _ _).mul (he _ _ _)).add (Num.sum _ fun k => (he _ _ _).mul (he _ _ _))).sub
    (Num.two.mul (Num.sum _ fun k => (he _ _ _).mul (he _ _ _))))).maxOf Num.zero

theorem gap_nonneg (e : FVec Ideal S8x576x192 .f32) (i : S8x576x576.Idx) : (0 : EReal) ≤ WRef.gap (F := Ideal) e i := by
  have h : i = ix3 (i 0) (i 1) (i 2) := by
    funext a
    match a with
    | ⟨0, _⟩ => rfl
    | ⟨1, _⟩ => rfl
    | ⟨2, _⟩ => rfl
  rw [h]
  exact (WRef.gap_apply e (i 0) (i 1) (i 2)).symm ▸ le_max_right _ _

/-! ## The precondition, decoded -/

theorem finite_dec [Cert.Pre_finite.Facts] (x : FVec Ideal S8x3x384x384 .f32) (w : FVec Ideal S192x3x16x16 .f32) (v : FVec Ideal S192 .f32)
    (h : Cert.Pre_finite.fn (F := Ideal) x w v = fun _ => 1#1) : (∀ i, Num (x i)) ∧ (∀ i, Num (w i)) ∧ ∀ i, Num (v i) := by
  have e := congrFun h ValueIdx.ix0
  dsimp only [Cert.Pre_finite.fn] at e
  have : Subsingleton Cert.Pre_finite.S_.Idx := ⟨fun a b => funext fun d => d.elim0⟩
  obtain ⟨e, h3⟩ := IntOp.andi_eq_one.1 e
  obtain ⟨h1, h2⟩ := IntOp.andi_eq_one.1 e
  have key : ∀ a : EReal, BitVec.ofBool (decide (max a (-a) < Ideal.ofBits .f32 0x7F800000#32)) = 1#1 → Num a := by
    intro a ha
    rw [WRound.inf_top] at ha
    exact Num.of_abs (by by_contra hc; simp [hc] at ha)
  exact ⟨fun i => key _ (Host.reduce_andi_all _ _ _ _ _ h1 i), fun i => key _ (Host.reduce_andi_all _ _ _ _ _ h2 i),
    fun i => key _ (Host.reduce_andi_all _ _ _ _ _ h3 i)⟩

/-! ## The two results -/

variable (m : (ℓ : Loc nD τ sig) → Buf (Elt Ideal) ℓ) (d : Dev nD)

abbrev X : FVec Ideal S8x3x384x384 .f32 := m ((SparseCore.T d).loc main_arg0)
abbrev W : FVec Ideal S192x3x16x16 .f32 := m ((SparseCore.T d).loc main_arg1)
abbrev B : FVec Ideal S192 .f32 := m ((SparseCore.T d).loc main_arg2)
/-- The reference's embeddings of the kernel's arguments. -/
abbrev E : FVec Ideal S8x576x192 .f32 := WRef.emb (F := Ideal) (X m d) (W m d) (B m d)
abbrev xb (b : Fin 8) : Vec Ideal S1x576x768 .f32 := img (Vr m) d b
abbrev wv : Vec Ideal S768x192 .f32 := Vr m d main_v3
abbrev bv : Vec Ideal S1x192 .f32 := Vr m d main_v4

theorem pay2_apply (b : Fin 8) (p : Fin 576) (c : Fin 192) :
    (k1_pay2 (xb m d b) (wv m d) (bv m d) (ix2 p c) : EReal) = E m d (ix3 b p c) := by
  have e : (k1_pay2 (xb m d b) (wv m d) (bv m d) (ix2 p c) : EReal)
      = ∑ x, xb m d b (ix3 0 p x) * wv m d (ix2 x c) + bv m d (ix2 0 c) := by pointwise [k1_pay2]
  refine e.trans (Eq.trans ?_ (WRef.emb_apply (X m d) (W m d) (B m d) b p c).symm)
  congr 1
  · refine Finset.sum_congr rfl fun k _ => ?_
    congr 1
    · exact v1_apply m d b p k
    · exact v3_apply m d k c
  · exact v4_apply m d c

/-- The embeddings. -/
theorem yv_eq : (yv m d : S8x576x192.Idx → EReal) = E m d := by
  unfold yv
  rw [arr3]
  funext y
  have e : (blkY (xb m d (y 0)) (wv m d) (bv m d) (ix3 0 (y 1) (y 2)) : EReal) = k1_pay2 (xb m d (y 0)) (wv m d) (bv m d) (ix2 (y 1) (y 2)) := by
    pointwise [blkY, k1_pay3]
  refine e.trans ((pay2_apply m d (y 0) (y 1) (y 2)).trans (congrArg (E m d) ?_))
  funext a
  match a with
  | ⟨0, _⟩ => rfl
  | ⟨1, _⟩ => rfl
  | ⟨2, _⟩ => rfl

/-- The squared distances of one image. -/
theorem pay4_apply (b : Fin 8) (r p : Fin 576) :
    (k1_pay4 (xb m d b) (wv m d) (bv m d) (ix2 r p) : EReal) = WRef.gap (F := Ideal) (E m d) (ix3 b r p) := by
  have e : (k1_pay4 (xb m d b) (wv m d) (bv m d) (ix2 r p) : EReal)
      = max (∑ x, k1_pay2 (xb m d b) (wv m d) (bv m d) (ix2 r x) * k1_pay2 (xb m d b) (wv m d) (bv m d) (ix2 r x)
          + ∑ x, k1_pay2 (xb m d b) (wv m d) (bv m d) (ix2 p x) * k1_pay2 (xb m d b) (wv m d) (bv m d) (ix2 p x)
        - Ideal.ofBits .f32 0x40000000#32 * ∑ x, k1_pay2 (xb m d b) (wv m d) (bv m d) (ix2 r x) * k1_pay2 (xb m d b) (wv m d) (bv m d) (ix2 p x)) 0 := by
    pointwise [k1_pay4]
  refine e.trans (Eq.trans ?_ (WRef.gap_apply (E m d) b r p).symm)
  simp only [pay2_apply]

/-- The neighbours' words. -/
theorem tiv_apply (b : Fin 8) (r : Fin 576) (l : Fin 16) :
    (tiv m d : S8x576x16.Idx → BitVec 32) (ix3 b r l)
      = if h : l.val < 7 then BitVec.ofNat 32 (WRound.taken (k1_pay4 (xb m d b) (wv m d) (bv m d)) r ⟨l.val, h⟩).val else 0#32 := by
  unfold tiv
  rw [arr4]
  exact WRound.blkI_apply (xb m d b) (wv m d) (bv m d) r l

theorem word (c : Fin 576) : (BitVec.ofNat 32 c.val).toNat = c.val := by
  have := c.isLt
  rw [BitVec.toNat_ofNat, Nat.mod_eq_of_lt (by omega)]

/-- They name columns, whatever the arguments. -/
theorem pre_ok : PreOK m := by
  intro d y
  have h : y = (ix3 (y 0) (y 1) (y 2) : S8x576x16.Idx) := by
    funext a
    match a with
    | ⟨0, _⟩ => rfl
    | ⟨1, _⟩ => rfl
    | ⟨2, _⟩ => rfl
  rw [h]
  refine (congrArg BitVec.toNat (tiv_apply m d (y 0) (y 1) (y 2))).trans_lt ?_
  split
  · rw [word]
    exact Fin.isLt _
  · decide

/-- The adjacency. -/
theorem res_eq (hX : ∀ i, Num (X m d i)) (hW : ∀ i, Num (W m d i)) (hB : ∀ i, Num (B m d i)) :
    (AdjPure.adj (F := Ideal) (tiv m d) : S8x576x576.Idx → EReal) = WRef.near (F := Ideal) (Host.sqrt (WRef.gap (F := Ideal) (E m d))) := by
  funext y
  obtain ⟨b, r, p, rfl⟩ : ∃ (b : Fin 8) (r p : Fin 576), y = (ix3 b r p : S8x576x576.Idx) := ⟨y 0, y 1, y 2, by
    funext a
    match a with
    | ⟨0, _⟩ => rfl
    | ⟨1, _⟩ => rfl
    | ⟨2, _⟩ => rfl⟩
  refine Eq.trans ?_ (WRef.near_sqrt_apply (WRef.gap (F := Ideal) (E m d)) (gap_nonneg _) b r p).symm
  have hT := WRound.takes (k1_pay4 (xb m d b) (wv m d) (bv m d)) r
  have hrank := WRank.rank_lt hT (by decide) (fun q => by
    show (k1_pay4 (xb m d b) (wv m d) (bv m d) (ix2 r q) : EReal) < ⊤
    rw [pay4_apply]
    obtain ⟨a, ha⟩ := gap_fin (e := E m d) (emb_fin hX hW hB) b r q
    rw [ha]
    exact EReal.coe_lt_top a) p
  simp only [pay4_apply] at hrank
  have one : (Scalar.ofBits (F := Ideal) .f32 0x3F800000#32 : EReal) = 1 := Ideal.ofBits_one_f32
  have zero : (Scalar.ofBits (F := Ideal) .f32 0#32 : EReal) = 0 := Ideal.ofBits_zero_f32
  have hex : (∃ k : Fin 7, ((tiv m d : S8x576x16.Idx → BitVec 32) (ix3 b r (k.castLE (by decide)))).toNat = p.val)
      ↔ ∃ i : Fin 7, WRound.taken (k1_pay4 (xb m d b) (wv m d) (bv m d)) r i = p := by
    refine exists_congr fun k => ?_
    rw [tiv_apply, dif_pos (show (k.castLE (show 7 ≤ 16 by decide)).val < 7 from k.isLt), word]
    exact Fin.ext_iff.symm
  show (open Classical in if ∃ k : Fin 7, ((tiv m d : S8x576x16.Idx → BitVec 32) (ix3 b r (k.castLE (by decide)))).toNat = p.val
    then (Scalar.ofBits (F := Ideal) .f32 0x3F800000#32 : EReal) else Scalar.ofBits (F := Ideal) .f32 0#32) = _
  rw [one, zero]
  exact if_congr (hex.trans hrank.symm) rfl rfl

end Cert.Proof.WValue

end
-- ==== Proof.lean ====
module

public import proofs.«01_k».proof.Defs
public import proofs.«01_k».proof.Proof.Gen.Adj
public import proofs.«01_k».proof.Proof.Gen.Adj.Skeleton
public import proofs.«01_k».proof.Proof.Gen.AdjIdeal
public import proofs.«01_k».proof.Proof.Gen.AdjIdeal.Skeleton
public import proofs.«01_k».proof.Proof.Gen.AdjRefIdeal
public import proofs.«01_k».proof.Proof.Gen.AdjRefIdeal.Run
public import proofs.«01_k».proof.Proof.Gen.WholeIdeal
public import proofs.«01_k».proof.Proof.Gen.WholeIdeal.Skeleton
public import proofs.«01_k».proof.Proof.Gen.Pre_finite
public import proofs.«01_k».proof.Proof.Gen.WholeRefIdeal.Run
public import proofs.«01_k».proof.Proof.AdjRun
public import proofs.«01_k».proof.Proof.AdjValue
public import proofs.«01_k».proof.Proof.WValue
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Adj

/-- The adjacency call, over float words, ends without fault from index words in range. -/
theorem frame_adj : Cert.quiescent_Adj := fun m ρ hp =>
  (θ_run Cert.AdjIdeal.defs _ _).mono (fun _ h => ⟨fun c => (h.1 c).1, h.2⟩)
    (AdjRun.run_main (F := Bits) m ρ fun d y => AdjValue.in_range_dec _ (hp d) y)

/-- The same of the ideal adjacency call. -/
theorem frame_adjIdeal : Cert.quiescent_AdjIdeal := fun m ρ hp =>
  (θ_run Cert.AdjIdeal.defs _ _).mono (fun _ h => ⟨fun c => (h.1 c).1, h.2⟩)
    (AdjRun.run_main (F := Ideal) m ρ fun d y => AdjValue.in_range_dec _ (hp d) y)

/-- The adjacency call's reference ends without fault. -/
theorem frame_adjRef : Cert.quiescent_AdjRefIdeal := fun m ρ _ =>
  (θ_run Cert.AdjRefIdeal.defs _ _).mono (fun r h => ⟨fun c => (h c).2, sem_eq_zero_of_no_sems (by decide) r.2⟩)
    (Cert.AdjRefIdeal.Value.run (F := Ideal) m ρ)

/-- The adjacency call and its reference leave the same array. -/
theorem algebraic_adj : Cert.algebraic_AdjIdeal_AdjRefIdeal := by
  intro m ρ m' ρ' hp hagree
  refine ⟨fun c => AdjRun.res (F := Ideal) m c, ?_, ?_⟩
  · exact (θ_run Cert.AdjIdeal.defs _ _).mono (fun _ h c => ⟨(h.1 c).2, (h.1 c).1⟩)
      (AdjRun.run_main (F := Ideal) m ρ fun d y => AdjValue.in_range_dec _ (hp d) y)
  · refine (θ_run Cert.AdjRefIdeal.defs _ _).mono (fun _ h c => ⟨(h c).1.trans ?_, (h c).2⟩) (Cert.AdjRefIdeal.Value.run (F := Ideal) m' ρ')
    refine (AdjValue.ref_eq _).trans ?_
    exact congrArg (AdjPure.adj (F := Ideal)) (hagree c)

/-- The whole ideal kernel ends without fault, from any arguments. -/
theorem frame_whole : Cert.quiescent_WholeIdeal := fun m ρ _ =>
  (θ_run Cert.WholeIdeal.defs _ _).mono (fun _ h => ⟨fun c => ⟨(h.1 c).1, (h.1 c).2.1, (h.1 c).2.2.1⟩, h.2⟩)
    (WRun.run_main (F := Ideal) m ρ (WValue.pre_ok m))

/-- The ideal reference ends without fault, from any arguments. -/
theorem frame_wholeRef : Cert.quiescent_WholeRefIdeal := fun m ρ _ =>
  (θ_run Cert.WholeRefIdeal.defs _ _).mono (fun r h => ⟨fun c => (h c).2.2, sem_eq_zero_of_no_sems (by decide) r.2⟩)
    (Cert.WholeRefIdeal.Value.run (F := Ideal) m ρ)

/-- From finite arguments the whole ideal kernel and the ideal reference return the same embedding and
    the same adjacency. -/
theorem algebraic_whole : Cert.algebraic_WholeIdeal_WholeRefIdeal_pre_finite := by
  intro m ρ m' ρ' hp hagree
  refine ⟨fun c => WRun.yv m c, fun c => WTiles.res (WRun.tiv m) c, ?_, ?_⟩
  · exact (θ_run Cert.WholeIdeal.defs _ _).mono (fun _ h c => ⟨(h.1 c).2.2.2.1, (h.1 c).2.2.2.2, (h.1 c).1, (h.1 c).2.1, (h.1 c).2.2.1⟩)
      (WRun.run_main (F := Ideal) m ρ (WValue.pre_ok m))
  · refine (θ_run Cert.WholeRefIdeal.defs _ _).mono (fun _ h c => ⟨(h c).1.trans ?_, (h c).2.1.trans ?_, (h c).2.2⟩)
      (Cert.WholeRefIdeal.Value.run (F := Ideal) m' ρ')
    · obtain ⟨h0, h1, h2⟩ := hagree c
      rw [h0, h1, h2]
      exact (WValue.yv_eq m c).symm
    · obtain ⟨h0, h1, h2⟩ := hagree c
      obtain ⟨hX, hW, hB⟩ := WValue.finite_dec _ _ _ (hp c)
      refine (WRef.res_eq m' c).trans ?_
      rw [h0, h1, h2]
      exact (WValue.res_eq m c hX hW hB).symm

/-- Everything that is claimed. -/
theorem claim : Cert.Claim := ⟨Cert.Adj.Gen.facts, Cert.AdjIdeal.Gen.facts, Cert.AdjRefIdeal.Gen.facts, Cert.WholeIdeal.Gen.facts,
  Cert.WholeRefIdeal.Gen.facts, Cert.Pre_in_range.Gen.facts, Cert.Pre_finite.Gen.facts,
  frame_adj, frame_adjIdeal, frame_adjRef, fun m ρ _ => frame_adjRef m ρ trivial,
  frame_whole, fun m ρ _ => frame_whole m ρ trivial, frame_wholeRef, fun m ρ _ => frame_wholeRef m ρ trivial, trivial,
  algebraic_adj, algebraic_whole⟩

end Cert.Proof

end
